-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_clip_idle [hKernelIdeal : Cert.KernelIdeal.Facts] [hClippedIdeal : Cert.ClippedIdeal.Facts] [hOn_clip_idle : Cert.On_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 2048]⟩ : Shape).Idx, (Layout.block ⟨2, ![128, 2048]⟩ ⟨2, ![2048, 2048]⟩ 0 16 c ((Cert.On_clip_idle.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![128, 2048]⟩ : Shape).Idx → _) i = 1#1 → r.2.mem ((c.tc : Thread Cert.KernelIdeal.nD Cert.KernelIdeal.τ).loc Cert.KernelIdeal.main_v1) i = (Layout.block ⟨2, ![128, 2048]⟩ ⟨2, ![2048, 2048]⟩ 0 16 c v0 : (⟨2, ![128, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![2048, 2048]⟩ : Shape).Idx, (Cert.On_clip_idle.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v8) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_clip_idle : Cert.On_clip_idle.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_clip_idle (hKernelIdeal := hKernelIdeal) (hClippedIdeal := hClippedIdeal) (hOn_clip_idle := hOn_clip_idle)
-- ==== On_clip_idle.lean ====
abbrev S2048x2048 : Shape := ⟨2, ![2048, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S2048x2048 1 :=
  let main_v0 : FVec F S2048x2048 .f32 := (extf .f32 · bitsLt_bf16_f32) main_arg0
  let main_v1 : FVec F S2048x2048 .f32 := (extf .f32 · bitsLt_bf16_f32) main_arg1
  let main_v2 : FVec F S2048x2048 .f32 := (fun l r => Host.dotGeneral dot_S2048x2048_S2048x2048_S2048x2048_1_0_0_1_n_n none l r) main_v0 main_v1
  let main_v3 : FVec F S2048x2048 .f32 := Host.absf main_v2
  let main_cst : FVec F S_ .f32 := constant S_ .f32 0x42700000#32
  let main_v4 : FVec F S2048x2048 .f32 := broadcastInDim S2048x2048 ![] bcast_S_S2048x2048 main_cst
  let main_v5 : IVec S2048x2048 1 := cmpf .ole main_v3 main_v4
  main_v5
-- ==== Kernel.lean ====
abbrev S2048x128 : Shape := ⟨2, ![2048, 128]⟩
abbrev S128x2048 : Shape := ⟨2, ![128, 2048]⟩
abbrev S4x8x2x128x512 : Shape := ⟨5, ![4, 8, 2, 128, 512]⟩
abbrev S4x8x2 : Shape := ⟨3, ![4, 8, 2]⟩
abbrev S_ : Shape := ⟨0, ![]⟩
abbrev S128x128 : Shape := ⟨2, ![128, 128]⟩
abbrev S128x1024 : Shape := ⟨2, ![128, 1024]⟩
abbrev S128x512 : Shape := ⟨2, ![128, 512]⟩
abbrev S1x1x1x128x512 : Shape := ⟨5, ![1, 1, 1, 128, 512]⟩
abbrev S1x1x1 : Shape := ⟨3, ![1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S128x2048, .f32⟩
  | .local _ .vmem, ⟨0, _⟩ => ⟨S2048x128, .bf16⟩
  | .local _ .vmem, ⟨1, _⟩ => ⟨S128x2048, .bf16⟩
  | .local _ .vmem, ⟨2, _⟩ => ⟨S128x2048, .f32⟩
  | .local _ .vmem, ⟨3, _⟩ => ⟨S4x8x2x128x512, .bf16⟩
  | .local _ .vmem, ⟨4, _⟩ => ⟨S4x8x2x128x512, .bf16⟩
  | _, _ => ⟨S2048x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_134 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_133 : BitVec 32 := 1#32
  let v148 : BitVec 32 := Scalar.muli v98 c1_i32_133
  let v149 : BitVec 32 := Scalar.addi c0_i32_134 v148
  v149.toNat
def k0_dev2 (d0 : Dev nD) : Nat :=
  let c0_i32_137 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_136 : BitVec 32 := 1#32
  let v150 : BitVec 32 := Scalar.muli v146 c1_i32_136
  let v151 : BitVec 32 := Scalar.addi c0_i32_137 v150
  v151.toNat
def k0_off1 (d0 : Dev nD) (c8_i32_140 : BitVec 32) (c0_i32_141 : BitVec 32) : Fin 2 → Nat :=
  let c0_i32_146 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c8_i32 : BitVec 32 := 8#32
  let c0_i32_6 : BitVec 32 := 0#32
  let v10 : BitVec 32 := Scalar.select v9 c8_i32 c0_i32_6
  let v11 : BitVec 32 := Scalar.addi v8 v10
  let c3_i32 : BitVec 32 := 3#32
  let v12 : BitVec 1 := Scalar.cmpi .eq v2 c3_i32
  let c9_i32 : BitVec 32 := 9#32
  let c0_i32_7 : BitVec 32 := 0#32
  let v13 : BitVec 32 := Scalar.select v12 c9_i32 c0_i32_7
  let v14 : BitVec 32 := Scalar.addi v11 v13
  let c4_i32 : BitVec 32 := 4#32
  let v15 : BitVec 1 := Scalar.cmpi .eq v2 c4_i32
  let c15_i32 : BitVec 32 := 15#32
  let c0_i32_8 : BitVec 32 := 0#32
  let v16 : BitVec 32 := Scalar.select v15 c15_i32 c0_i32_8
  let v17 : BitVec 32 := Scalar.addi v14 v16
  let c5_i32 : BitVec 32 := 5#32
  let v18 : BitVec 1 := Scalar.cmpi .eq v2 c5_i32
  let c2_i32_9 : BitVec 32 := 2#32
  let c0_i32_10 : BitVec 32 := 0#32
  let v19 : BitVec 32 := Scalar.select v18 c2_i32_9 c0_i32_10
  let v20 : BitVec 32 := Scalar.addi v17 v19
  let c6_i32 : BitVec 32 := 6#32
  let v21 : BitVec 1 := Scalar.cmpi .eq v2 c6_i32
  let c7_i32 : BitVec 32 := 7#32
  let c0_i32_11 : BitVec 32 := 0#32
  let v22 : BitVec 32 := Scalar.select v21 c7_i32 c0_i32_11
  let v23 : BitVec 32 := Scalar.addi v20 v22
  let c7_i32_12 : BitVec 32 := 7#32
  let v24 : BitVec 1 := Scalar.cmpi .eq v2 c7_i32_12
  let c10_i32 : BitVec 32 := 10#32
  let c0_i32_13 : BitVec 32 := 0#32
  let v25 : BitVec 32 := Scalar.select v24 c10_i32 c0_i32_13
  let v26 : BitVec 32 := Scalar.addi v23 v25
  let c8_i32_14 : BitVec 32 := 8#32
  let v27 : BitVec 1 := Scalar.cmpi .eq v2 c8_i32_14
  let c14_i32 : BitVec 32 := 14#32
  let c0_i32_15 : BitVec 32 := 0#32
  let v28 : BitVec 32 := Scalar.select v27 c14_i32 c0_i32_15
  let v29 : BitVec 32 := Scalar.addi v26 v28
  let c9_i32_16 : BitVec 32 := 9#32
  let v30 : BitVec 1 := Scalar.cmpi .eq v2 c9_i32_16
  let c3_i32_17 : BitVec 32 := 3#32
  let c0_i32_18 : BitVec 32 := 0#32
  let v31 : BitVec 32 := Scalar.select v30 c3_i32_17 c0_i32_18
  let v32 : BitVec 32 := Scalar.addi v29 v31
  let c10_i32_19 : BitVec 32 := 10#32
  let v33 : BitVec 1 := Scalar.cmpi .eq v2 c10_i32_19
  let c6_i32_20 : BitVec 32 := 6#32
  let c0_i32_21 : BitVec 32 := 0#32
  let v34 : BitVec 32 := Scalar.select v33 c6_i32_20 c0_i32_21
  let v35 : BitVec 32 := Scalar.addi v32 v34
  let c11_i32 : BitVec 32 := 11#32
  let v36 : BitVec 1 := Scalar.cmpi .eq v2 c11_i32
  let c11_i32_22 : BitVec 32 := 11#32
  let c0_i32_23 : BitVec 32 := 0#32
  let v37 : BitVec 32 := Scalar.select v36 c11_i32_22 c0_i32_23
  let v38 : BitVec 32 := Scalar.addi v35 v37
  let c12_i32 : BitVec 32 := 12#32
  let v39 : BitVec 1 := Scalar.cmpi .eq v2 c12_i32
  let c13_i32 : BitVec 32 := 13#32
  let c0_i32_24 : BitVec 32 := 0#32
  let v40 : BitVec 32 := Scalar.select v39 c13_i32 c0_i32_24
  let v41 : BitVec 32 := Scalar.addi v38 v40
  let c13_i32_25 : BitVec 32 := 13#32
  let v42 : BitVec 1 := Scalar.cmpi .eq v2 c13_i32_25
  let c4_i32_26 : BitVec 32 := 4#32
  let c0_i32_27 : BitVec 32 := 0#32
  let v43 : BitVec 32 := Scalar.select v42 c4_i32_26 c0_i32_27
  let v44 : BitVec 32 := Scalar.addi v41 v43
  let c14_i32_28 : BitVec 32 := 14#32
  let v45 : BitVec 1 := Scalar.cmpi .eq v2 c14_i32_28
  let c5_i32_29 : BitVec 32 := 5#32
  let c0_i32_30 : BitVec 32 := 0#32
  let v46 : BitVec 32 := Scalar.select v45 c5_i32_29 c0_i32_30
  let v47 : BitVec 32 := Scalar.addi v44 v46
  let c15_i32_31 : BitVec 32 := 15#32
  let v48 : BitVec 1 := Scalar.cmpi .eq v2 c15_i32_31
  let c12_i32_32 : BitVec 32 := 12#32
  let c0_i32_33 : BitVec 32 := 0#32
  let v49 : BitVec 32 := Scalar.select v48 c12_i32_32 c0_i32_33
  let v50 : BitVec 32 := Scalar.addi v47 v49
  let v154 : BitVec 32 := Scalar.addi v50 c8_i32_140
  let v155 : BitVec 32 := Scalar.addi v154 c0_i32_141
  let c16_i32_142 : BitVec 32 := 16#32
  let v156 : BitVec 32 := Scalar.remsi v155 c16_i32_142
  let c0_i32_143 : BitVec 32 := 0#32
  let v157 : BitVec 1 := Scalar.cmpi .eq v156 c0_i32_143
  let c0_i32_144 : BitVec 32 := 0#32
  let c0_i32_145 : BitVec 32 := 0#32
  let v158 : BitVec 32 := Scalar.select v157 c0_i32_144 c0_i32_145
  let v159 : BitVec 32 := Scalar.addi c0_i32_146 v158
  let c1_i32_147 : BitVec 32 := 1#32
  let v160 : BitVec 1 := Scalar.cmpi .eq v156 c1_i32_147
  let c1_i32_148 : BitVec 32 := 1#32
  let c0_i32_149 : BitVec 32 := 0#32
  let v161 : BitVec 32 := Scalar.select v160 c1_i32_148 c0_i32_149
  let v162 : BitVec 32 := Scalar.addi v159 v161
  let c2_i32_150 : BitVec 32 := 2#32
  let v163 : BitVec 1 := Scalar.cmpi .eq v156 c2_i32_150
  let c5_i32_151 : BitVec 32 := 5#32
  let c0_i32_152 : BitVec 32 := 0#32
  let v164 : BitVec 32 := Scalar.select v163 c5_i32_151 c0_i32_152
  let v165 : BitVec 32 := Scalar.addi v162 v164
  let c3_i32_153 : BitVec 32 := 3#32
  let v166 : BitVec 1 := Scalar.cmpi .eq v156 c3_i32_153
  let c9_i32_154 : BitVec 32 := 9#32
  let c0_i32_155 : BitVec 32 := 0#32
  let v167 : BitVec 32 := Scalar.select v166 c9_i32_154 c0_i32_155
  let v168 : BitVec 32 := Scalar.addi v165 v167
  let c4_i32_156 : BitVec 32 := 4#32
  let v169 : BitVec 1 := Scalar.cmpi .eq v156 c4_i32_156
  let c13_i32_157 : BitVec 32 := 13#32
  let c0_i32_158 : BitVec 32 := 0#32
  let v170 : BitVec 32 := Scalar.select v169 c13_i32_157 c0_i32_158
  let v171 : BitVec 32 := Scalar.addi v168 v170
  let c5_i32_159 : BitVec 32 := 5#32
  let v172 : BitVec 1 := Scalar.cmpi .eq v156 c5_i32_159
  let c14_i32_160 : BitVec 32 := 14#32
  let c0_i32_161 : BitVec 32 := 0#32
  let v173 : BitVec 32 := Scalar.select v172 c14_i32_160 c0_i32_161
  let v174 : BitVec 32 := Scalar.addi v171 v173
  let c6_i32_162 : BitVec 32 := 6#32
  let v175 : BitVec 1 := Scalar.cmpi .eq v156 c6_i32_162
  let c10_i32_163 : BitVec 32 := 10#32
  let c0_i32_164 : BitVec 32 := 0#32
  let v176 : BitVec 32 := Scalar.select v175 c10_i32_163 c0_i32_164
  let v177 : BitVec 32 := Scalar.addi v174 v176
  let c7_i32_165 : BitVec 32 := 7#32
  let v178 : BitVec 1 := Scalar.cmpi .eq v156 c7_i32_165
  let c6_i32_166 : BitVec 32 := 6#32
  let c0_i32_167 : BitVec 32 := 0#32
  let v179 : BitVec 32 := Scalar.select v178 c6_i32_166 c0_i32_167
  let v180 : BitVec 32 := Scalar.addi v177 v179
  let c8_i32_168 : BitVec 32 := 8#32
  let v181 : BitVec 1 := Scalar.cmpi .eq v156 c8_i32_168
  let c2_i32_169 : BitVec 32 := 2#32
  let c0_i32_170 : BitVec 32 := 0#32
  let v182 : BitVec 32 := Scalar.select v181 c2_i32_169 c0_i32_170
  let v183 : BitVec 32 := Scalar.addi v180 v182
  let c9_i32_171 : BitVec 32 := 9#32
  let v184 : BitVec 1 := Scalar.cmpi .eq v156 c9_i32_171
  let c3_i32_172 : BitVec 32 := 3#32
  let c0_i32_173 : BitVec 32 := 0#32
  let v185 : BitVec 32 := Scalar.select v184 c3_i32_172 c0_i32_173
  let v186 : BitVec 32 := Scalar.addi v183 v185
  let c10_i32_174 : BitVec 32 := 10#32
  let v187 : BitVec 1 := Scalar.cmpi .eq v156 c10_i32_174
  let c7_i32_175 : BitVec 32 := 7#32
  let c0_i32_176 : BitVec 32 := 0#32
  let v188 : BitVec 32 := Scalar.select v187 c7_i32_175 c0_i32_176
  let v189 : BitVec 32 := Scalar.addi v186 v188
  let c11_i32_177 : BitVec 32 := 11#32
  let v190 : BitVec 1 := Scalar.cmpi .eq v156 c11_i32_177
  let c11_i32_178 : BitVec 32 := 11#32
  let c0_i32_179 : BitVec 32 := 0#32
  let v191 : BitVec 32 := Scalar.select v190 c11_i32_178 c0_i32_179
  let v192 : BitVec 32 := Scalar.addi v189 v191
  let c12_i32_180 : BitVec 32 := 12#32
  let v193 : BitVec 1 := Scalar.cmpi .eq v156 c12_i32_180
  let c15_i32_181 : BitVec 32 := 15#32
  let c0_i32_182 : BitVec 32 := 0#32
  let v194 : BitVec 32 := Scalar.select v193 c15_i32_181 c0_i32_182
  let v195 : BitVec 32 := Scalar.addi v192 v194
  let c13_i32_183 : BitVec 32 := 13#32
  let v196 : BitVec 1 := Scalar.cmpi .eq v156 c13_i32_183
  let c12_i32_184 : BitVec 32 := 12#32
  let c0_i32_185 : BitVec 32 := 0#32
  let v197 : BitVec 32 := Scalar.select v196 c12_i32_184 c0_i32_185
  let v198 : BitVec 32 := Scalar.addi v195 v197
  let c14_i32_186 : BitVec 32 := 14#32
  let v199 : BitVec 1 := Scalar.cmpi .eq v156 c14_i32_186
  let c8_i32_187 : BitVec 32 := 8#32
  let c0_i32_188 : BitVec 32 := 0#32
  let v200 : BitVec 32 := Scalar.select v199 c8_i32_187 c0_i32_188
  let v201 : BitVec 32 := Scalar.addi v198 v200
  let c15_i32_189 : BitVec 32 := 15#32
  let v202 : BitVec 1 := Scalar.cmpi .eq v156 c15_i32_189
  let c4_i32_190 : BitVec 32 := 4#32
  let c0_i32_191 : BitVec 32 := 0#32
  let v203 : BitVec 32 := Scalar.select v202 c4_i32_190 c0_i32_191
  let v204 : BitVec 32 := Scalar.addi v201 v203
  let c128_i32 : BitVec 32 := 128#32
  let v205 : BitVec 32 := Scalar.muli v204 c128_i32
  let v206 : Index := Scalar.indexCast v205
  let c0_192 : Index := 0#32
  ![v206.toNat, 0]
def k0_off1_at (r : Fin 16) : BitVec 32 × BitVec 32 :=
  if r.val < 8 then
    if r.val < 4 then
      if r.val < 2 then
        if r.val < 1 then
          (8#32, 0#32)
        else
          (9#32, 0#32)
      else
        if r.val < 3 then
          (8#32, 1#32)
        else
          (9#32, 1#32)
    else
      if r.val < 6 then
        if r.val < 5 then
          (8#32, 2#32)
        else
          (9#32, 2#32)
      else
        if r.val < 7 then
          (8#32, 3#32)
        else
          (9#32, 3#32)
  else
    if r.val < 12 then
      if r.val < 10 then
        if r.val < 9 then
          (8#32, 4#32)
        else
          (9#32, 4#32)
      else
        if r.val < 11 then
          (8#32, 5#32)
        else
          (9#32, 5#32)
    else
      if r.val < 14 then
        if r.val < 13 then
          (8#32, 6#32)
        else
          (9#32, 6#32)
      else
        if r.val < 15 then
          (8#32, 7#32)
        else
          (0#32, 0#32)
def k0_off2 (d0 : Dev nD) (c7_i32_193 : BitVec 32) (c0_i32_194 : BitVec 32) : Fin 2 → Nat :=
  let c0_i32_199 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c8_i32 : BitVec 32 := 8#32
  let c0_i32_6 : BitVec 32 := 0#32
  let v10 : BitVec 32 := Scalar.select v9 c8_i32 c0_i32_6
  let v11 : BitVec 32 := Scalar.addi v8 v10
  let c3_i32 : BitVec 32 := 3#32
  let v12 : BitVec 1 := Scalar.cmpi .eq v2 c3_i32
  let c9_i32 : BitVec 32 := 9#32
  let c0_i32_7 : BitVec 32 := 0#32
  let v13 : BitVec 32 := Scalar.select v12 c9_i32 c0_i32_7
  let v14 : BitVec 32 := Scalar.addi v11 v13
  let c4_i32 : BitVec 32 := 4#32
  let v15 : BitVec 1 := Scalar.cmpi .eq v2 c4_i32
  let c15_i32 : BitVec 32 := 15#32
  let c0_i32_8 : BitVec 32 := 0#32
  let v16 : BitVec 32 := Scalar.select v15 c15_i32 c0_i32_8
  let v17 : BitVec 32 := Scalar.addi v14 v16
  let c5_i32 : BitVec 32 := 5#32
  let v18 : BitVec 1 := Scalar.cmpi .eq v2 c5_i32
  let c2_i32_9 : BitVec 32 := 2#32
  let c0_i32_10 : BitVec 32 := 0#32
  let v19 : BitVec 32 := Scalar.select v18 c2_i32_9 c0_i32_10
  let v20 : BitVec 32 := Scalar.addi v17 v19
  let c6_i32 : BitVec 32 := 6#32
  let v21 : BitVec 1 := Scalar.cmpi .eq v2 c6_i32
  let c7_i32 : BitVec 32 := 7#32
  let c0_i32_11 : BitVec 32 := 0#32
  let v22 : BitVec 32 := Scalar.select v21 c7_i32 c0_i32_11
  let v23 : BitVec 32 := Scalar.addi v20 v22
  let c7_i32_12 : BitVec 32 := 7#32
  let v24 : BitVec 1 := Scalar.cmpi .eq v2 c7_i32_12
  let c10_i32 : BitVec 32 := 10#32
  let c0_i32_13 : BitVec 32 := 0#32
  let v25 : BitVec 32 := Scalar.select v24 c10_i32 c0_i32_13
  let v26 : BitVec 32 := Scalar.addi v23 v25
  let c8_i32_14 : BitVec 32 := 8#32
  let v27 : BitVec 1 := Scalar.cmpi .eq v2 c8_i32_14
  let c14_i32 : BitVec 32 := 14#32
  let c0_i32_15 : BitVec 32 := 0#32
  let v28 : BitVec 32 := Scalar.select v27 c14_i32 c0_i32_15
  let v29 : BitVec 32 := Scalar.addi v26 v28
  let c9_i32_16 : BitVec 32 := 9#32
  let v30 : BitVec 1 := Scalar.cmpi .eq v2 c9_i32_16
  let c3_i32_17 : BitVec 32 := 3#32
  let c0_i32_18 : BitVec 32 := 0#32
  let v31 : BitVec 32 := Scalar.select v30 c3_i32_17 c0_i32_18
  let v32 : BitVec 32 := Scalar.addi v29 v31
  let c10_i32_19 : BitVec 32 := 10#32
  let v33 : BitVec 1 := Scalar.cmpi .eq v2 c10_i32_19
  let c6_i32_20 : BitVec 32 := 6#32
  let c0_i32_21 : BitVec 32 := 0#32
  let v34 : BitVec 32 := Scalar.select v33 c6_i32_20 c0_i32_21
  let v35 : BitVec 32 := Scalar.addi v32 v34
  let c11_i32 : BitVec 32 := 11#32
  let v36 : BitVec 1 := Scalar.cmpi .eq v2 c11_i32
  let c11_i32_22 : BitVec 32 := 11#32
  let c0_i32_23 : BitVec 32 := 0#32
  let v37 : BitVec 32 := Scalar.select v36 c11_i32_22 c0_i32_23
  let v38 : BitVec 32 := Scalar.addi v35 v37
  let c12_i32 : BitVec 32 := 12#32
  let v39 : BitVec 1 := Scalar.cmpi .eq v2 c12_i32
  let c13_i32 : BitVec 32 := 13#32
  let c0_i32_24 : BitVec 32 := 0#32
  let v40 : BitVec 32 := Scalar.select v39 c13_i32 c0_i32_24
  let v41 : BitVec 32 := Scalar.addi v38 v40
  let c13_i32_25 : BitVec 32 := 13#32
  let v42 : BitVec 1 := Scalar.cmpi .eq v2 c13_i32_25
  let c4_i32_26 : BitVec 32 := 4#32
  let c0_i32_27 : BitVec 32 := 0#32
  let v43 : BitVec 32 := Scalar.select v42 c4_i32_26 c0_i32_27
  let v44 : BitVec 32 := Scalar.addi v41 v43
  let c14_i32_28 : BitVec 32 := 14#32
  let v45 : BitVec 1 := Scalar.cmpi .eq v2 c14_i32_28
  let c5_i32_29 : BitVec 32 := 5#32
  let c0_i32_30 : BitVec 32 := 0#32
  let v46 : BitVec 32 := Scalar.select v45 c5_i32_29 c0_i32_30
  let v47 : BitVec 32 := Scalar.addi v44 v46
  let c15_i32_31 : BitVec 32 := 15#32
  let v48 : BitVec 1 := Scalar.cmpi .eq v2 c15_i32_31
  let c12_i32_32 : BitVec 32 := 12#32
  let c0_i32_33 : BitVec 32 := 0#32
  let v49 : BitVec 32 := Scalar.select v48 c12_i32_32 c0_i32_33
  let v50 : BitVec 32 := Scalar.addi v47 v49
  let v211 : BitVec 32 := Scalar.addi v50 c7_i32_193
  let v212 : BitVec 32 := Scalar.subi v211 c0_i32_194
  let c16_i32_195 : BitVec 32 := 16#32
  let v213 : BitVec 32 := Scalar.remsi v212 c16_i32_195
  let c0_i32_196 : BitVec 32 := 0#32
  let v214 : BitVec 1 := Scalar.cmpi .eq v213 c0_i32_196
  let c0_i32_197 : BitVec 32 := 0#32
  let c0_i32_198 : BitVec 32 := 0#32
  let v215 : BitVec 32 := Scalar.select v214 c0_i32_197 c0_i32_198
  let v216 : BitVec 32 := Scalar.addi c0_i32_199 v215
  let c1_i32_200 : BitVec 32 := 1#32
  let v217 : BitVec 1 := Scalar.cmpi .eq v213 c1_i32_200
  let c1_i32_201 : BitVec 32 := 1#32
  let c0_i32_202 : BitVec 32 := 0#32
  let v218 : BitVec 32 := Scalar.select v217 c1_i32_201 c0_i32_202
  let v219 : BitVec 32 := Scalar.addi v216 v218
  let c2_i32_203 : BitVec 32 := 2#32
  let v220 : BitVec 1 := Scalar.cmpi .eq v213 c2_i32_203
  let c5_i32_204 : BitVec 32 := 5#32
  let c0_i32_205 : BitVec 32 := 0#32
  let v221 : BitVec 32 := Scalar.select v220 c5_i32_204 c0_i32_205
  let v222 : BitVec 32 := Scalar.addi v219 v221
  let c3_i32_206 : BitVec 32 := 3#32
  let v223 : BitVec 1 := Scalar.cmpi .eq v213 c3_i32_206
  let c9_i32_207 : BitVec 32 := 9#32
  let c0_i32_208 : BitVec 32 := 0#32
  let v224 : BitVec 32 := Scalar.select v223 c9_i32_207 c0_i32_208
  let v225 : BitVec 32 := Scalar.addi v222 v224
  let c4_i32_209 : BitVec 32 := 4#32
  let v226 : BitVec 1 := Scalar.cmpi .eq v213 c4_i32_209
  let c13_i32_210 : BitVec 32 := 13#32
  let c0_i32_211 : BitVec 32 := 0#32
  let v227 : BitVec 32 := Scalar.select v226 c13_i32_210 c0_i32_211
  let v228 : BitVec 32 := Scalar.addi v225 v227
  let c5_i32_212 : BitVec 32 := 5#32
  let v229 : BitVec 1 := Scalar.cmpi .eq v213 c5_i32_212
  let c14_i32_213 : BitVec 32 := 14#32
  let c0_i32_214 : BitVec 32 := 0#32
  let v230 : BitVec 32 := Scalar.select v229 c14_i32_213 c0_i32_214
  let v231 : BitVec 32 := Scalar.addi v228 v230
  let c6_i32_215 : BitVec 32 := 6#32
  let v232 : BitVec 1 := Scalar.cmpi .eq v213 c6_i32_215
  let c10_i32_216 : BitVec 32 := 10#32
  let c0_i32_217 : BitVec 32 := 0#32
  let v233 : BitVec 32 := Scalar.select v232 c10_i32_216 c0_i32_217
  let v234 : BitVec 32 := Scalar.addi v231 v233
  let c7_i32_218 : BitVec 32 := 7#32
  let v235 : BitVec 1 := Scalar.cmpi .eq v213 c7_i32_218
  let c6_i32_219 : BitVec 32 := 6#32
  let c0_i32_220 : BitVec 32 := 0#32
  let v236 : BitVec 32 := Scalar.select v235 c6_i32_219 c0_i32_220
  let v237 : BitVec 32 := Scalar.addi v234 v236
  let c8_i32_221 : BitVec 32 := 8#32
  let v238 : BitVec 1 := Scalar.cmpi .eq v213 c8_i32_221
  let c2_i32_222 : BitVec 32 := 2#32
  let c0_i32_223 : BitVec 32 := 0#32
  let v239 : BitVec 32 := Scalar.select v238 c2_i32_222 c0_i32_223
  let v240 : BitVec 32 := Scalar.addi v237 v239
  let c9_i32_224 : BitVec 32 := 9#32
  let v241 : BitVec 1 := Scalar.cmpi .eq v213 c9_i32_224
  let c3_i32_225 : BitVec 32 := 3#32
  let c0_i32_226 : BitVec 32 := 0#32
  let v242 : BitVec 32 := Scalar.select v241 c3_i32_225 c0_i32_226
  let v243 : BitVec 32 := Scalar.addi v240 v242
  let c10_i32_227 : BitVec 32 := 10#32
  let v244 : BitVec 1 := Scalar.cmpi .eq v213 c10_i32_227
  let c7_i32_228 : BitVec 32 := 7#32
  let c0_i32_229 : BitVec 32 := 0#32
  let v245 : BitVec 32 := Scalar.select v244 c7_i32_228 c0_i32_229
  let v246 : BitVec 32 := Scalar.addi v243 v245
  let c11_i32_230 : BitVec 32 := 11#32
  let v247 : BitVec 1 := Scalar.cmpi .eq v213 c11_i32_230
  let c11_i32_231 : BitVec 32 := 11#32
  let c0_i32_232 : BitVec 32 := 0#32
  let v248 : BitVec 32 := Scalar.select v247 c11_i32_231 c0_i32_232
  let v249 : BitVec 32 := Scalar.addi v246 v248
  let c12_i32_233 : BitVec 32 := 12#32
  let v250 : BitVec 1 := Scalar.cmpi .eq v213 c12_i32_233
  let c15_i32_234 : BitVec 32 := 15#32
  let c0_i32_235 : BitVec 32 := 0#32
  let v251 : BitVec 32 := Scalar.select v250 c15_i32_234 c0_i32_235
  let v252 : BitVec 32 := Scalar.addi v249 v251
  let c13_i32_236 : BitVec 32 := 13#32
  let v253 : BitVec 1 := Scalar.cmpi .eq v213 c13_i32_236
  let c12_i32_237 : BitVec 32 := 12#32
  let c0_i32_238 : BitVec 32 := 0#32
  let v254 : BitVec 32 := Scalar.select v253 c12_i32_237 c0_i32_238
  let v255 : BitVec 32 := Scalar.addi v252 v254
  let c14_i32_239 : BitVec 32 := 14#32
  let v256 : BitVec 1 := Scalar.cmpi .eq v213 c14_i32_239
  let c8_i32_240 : BitVec 32 := 8#32
  let c0_i32_241 : BitVec 32 := 0#32
  let v257 : BitVec 32 := Scalar.select v256 c8_i32_240 c0_i32_241
  let v258 : BitVec 32 := Scalar.addi v255 v257
  let c15_i32_242 : BitVec 32 := 15#32
  let v259 : BitVec 1 := Scalar.cmpi .eq v213 c15_i32_242
  let c4_i32_243 : BitVec 32 := 4#32
  let c0_i32_244 : BitVec 32 := 0#32
  let v260 : BitVec 32 := Scalar.select v259 c4_i32_243 c0_i32_244
  let v261 : BitVec 32 := Scalar.addi v258 v260
  let c128_i32_245 : BitVec 32 := 128#32
  let v262 : BitVec 32 := Scalar.muli v261 c128_i32_245
  let v263 : Index := Scalar.indexCast v262
  let c0_246 : Index := 0#32
  ![v263.toNat, 0]
def k0_off2_at (r : Fin 15) : BitVec 32 × BitVec 32 :=
  if r.val < 7 then
    if r.val < 3 then
      if r.val < 1 then
        (7#32, 0#32)
      else
        if r.val < 2 then
          (8#32, 0#32)
        else
          (7#32, 1#32)
    else
      if r.val < 5 then
        if r.val < 4 then
          (8#32, 1#32)
        else
          (7#32, 2#32)
      else
        if r.val < 6 then
          (8#32, 2#32)
        else
          (7#32, 3#32)
  else
    if r.val < 11 then
      if r.val < 9 then
        if r.val < 8 then
          (8#32, 3#32)
        else
          (7#32, 4#32)
      else
        if r.val < 10 then
          (8#32, 4#32)
        else
          (7#32, 5#32)
    else
      if r.val < 13 then
        if r.val < 12 then
          (8#32, 5#32)
        else
          (7#32, 6#32)
      else
        if r.val < 14 then
          (8#32, 6#32)
        else
          (8#32, 7#32)
def k0_dev3 (d0 : Dev nD) : Nat :=
  let c0_i32_376 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_375 : BitVec 32 := 1#32
  let v387 : BitVec 32 := Scalar.muli v146 c1_i32_375
  let v388 : BitVec 32 := Scalar.addi c0_i32_376 v387
  v388.toNat
def k0_dev4 (d0 : Dev nD) : Nat :=
  let c0_i32_398 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_397 : BitVec 32 := 1#32
  let v402 : BitVec 32 := Scalar.muli v98 c1_i32_397
  let v403 : BitVec 32 := Scalar.addi c0_i32_398 v402
  v403.toNat
def k0_dev5 (d0 : Dev nD) : Nat :=
  let c0_i32_420 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_419 : BitVec 32 := 1#32
  let v417 : BitVec 32 := Scalar.muli v98 c1_i32_419
  let v418 : BitVec 32 := Scalar.addi c0_i32_420 v417
  v418.toNat
def k0_dev6 (d0 : Dev nD) : Nat :=
  let c0_i32_442 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_441 : BitVec 32 := 1#32
  let v432 : BitVec 32 := Scalar.muli v146 c1_i32_441
  let v433 : BitVec 32 := Scalar.addi c0_i32_442 v432
  v433.toNat
def k0_dev7 (d0 : Dev nD) : Nat :=
  let c0_i32_465 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_464 : BitVec 32 := 1#32
  let v447 : BitVec 32 := Scalar.muli v146 c1_i32_464
  let v448 : BitVec 32 := Scalar.addi c0_i32_465 v447
  v448.toNat
def k0_dev8 (d0 : Dev nD) : Nat :=
  let c0_i32_488 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_487 : BitVec 32 := 1#32
  let v462 : BitVec 32 := Scalar.muli v98 c1_i32_487
  let v463 : BitVec 32 := Scalar.addi c0_i32_488 v462
  v463.toNat
def k0_dev9 (d0 : Dev nD) : Nat :=
  let c0_i32_511 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_510 : BitVec 32 := 1#32
  let v477 : BitVec 32 := Scalar.muli v98 c1_i32_510
  let v478 : BitVec 32 := Scalar.addi c0_i32_511 v477
  v478.toNat
def k0_dev10 (d0 : Dev nD) : Nat :=
  let c0_i32_534 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_533 : BitVec 32 := 1#32
  let v492 : BitVec 32 := Scalar.muli v146 c1_i32_533
  let v493 : BitVec 32 := Scalar.addi c0_i32_534 v492
  v493.toNat
def k0_dev11 (d0 : Dev nD) : Nat :=
  let c0_i32_800 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_799 : BitVec 32 := 1#32
  let v747 : BitVec 32 := Scalar.muli v146 c1_i32_799
  let v748 : BitVec 32 := Scalar.addi c0_i32_800 v747
  v748.toNat
def k0_dev12 (d0 : Dev nD) : Nat :=
  let c0_i32_846 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_845 : BitVec 32 := 1#32
  let v774 : BitVec 32 := Scalar.muli v98 c1_i32_845
  let v775 : BitVec 32 := Scalar.addi c0_i32_846 v774
  v775.toNat
def k0_dev13 (d0 : Dev nD) : Nat :=
  let c0_i32_892 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_891 : BitVec 32 := 1#32
  let v801 : BitVec 32 := Scalar.muli v98 c1_i32_891
  let v802 : BitVec 32 := Scalar.addi c0_i32_892 v801
  v802.toNat
def k0_dev14 (d0 : Dev nD) : Nat :=
  let c0_i32_938 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_937 : BitVec 32 := 1#32
  let v828 : BitVec 32 := Scalar.muli v146 c1_i32_937
  let v829 : BitVec 32 := Scalar.addi c0_i32_938 v828
  v829.toNat
def k0_dev15 (d0 : Dev nD) : Nat :=
  let c0_i32_984 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_983 : BitVec 32 := 1#32
  let v855 : BitVec 32 := Scalar.muli v146 c1_i32_983
  let v856 : BitVec 32 := Scalar.addi c0_i32_984 v855
  v856.toNat
def k0_dev16 (d0 : Dev nD) : Nat :=
  let c0_i32_1030 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_1029 : BitVec 32 := 1#32
  let v882 : BitVec 32 := Scalar.muli v98 c1_i32_1029
  let v883 : BitVec 32 := Scalar.addi c0_i32_1030 v882
  v883.toNat
def k0_dev17 (d0 : Dev nD) : Nat :=
  let c0_i32_1076 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_1075 : BitVec 32 := 1#32
  let v909 : BitVec 32 := Scalar.muli v98 c1_i32_1075
  let v910 : BitVec 32 := Scalar.addi c0_i32_1076 v909
  v910.toNat
def k0_dev18 (d0 : Dev nD) : Nat :=
  let c0_i32_1122 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_1121 : BitVec 32 := 1#32
  let v936 : BitVec 32 := Scalar.muli v146 c1_i32_1121
  let v937 : BitVec 32 := Scalar.addi c0_i32_1122 v936
  v937.toNat
def k0_dev19 (d0 : Dev nD) : Nat :=
  let c0_i32_1388 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_1387 : BitVec 32 := 1#32
  let v1191 : BitVec 32 := Scalar.muli v146 c1_i32_1387
  let v1192 : BitVec 32 := Scalar.addi c0_i32_1388 v1191
  v1192.toNat
def k0_dev20 (d0 : Dev nD) : Nat :=
  let c0_i32_1434 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_1433 : BitVec 32 := 1#32
  let v1218 : BitVec 32 := Scalar.muli v98 c1_i32_1433
  let v1219 : BitVec 32 := Scalar.addi c0_i32_1434 v1218
  v1219.toNat
def k0_dev21 (d0 : Dev nD) : Nat :=
  let c0_i32_1480 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_1479 : BitVec 32 := 1#32
  let v1245 : BitVec 32 := Scalar.muli v98 c1_i32_1479
  let v1246 : BitVec 32 := Scalar.addi c0_i32_1480 v1245
  v1246.toNat
def k0_dev22 (d0 : Dev nD) : Nat :=
  let c0_i32_1526 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_1525 : BitVec 32 := 1#32
  let v1272 : BitVec 32 := Scalar.muli v146 c1_i32_1525
  let v1273 : BitVec 32 := Scalar.addi c0_i32_1526 v1272
  v1273.toNat
def k0_dev23 (d0 : Dev nD) : Nat :=
  let c0_i32_1572 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_1571 : BitVec 32 := 1#32
  let v1299 : BitVec 32 := Scalar.muli v146 c1_i32_1571
  let v1300 : BitVec 32 := Scalar.addi c0_i32_1572 v1299
  v1300.toNat
def k0_dev24 (d0 : Dev nD) : Nat :=
  let c0_i32_1618 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_1617 : BitVec 32 := 1#32
  let v1326 : BitVec 32 := Scalar.muli v98 c1_i32_1617
  let v1327 : BitVec 32 := Scalar.addi c0_i32_1618 v1326
  v1327.toNat
def k0_dev25 (d0 : Dev nD) : Nat :=
  let c0_i32_1664 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_1663 : BitVec 32 := 1#32
  let v1353 : BitVec 32 := Scalar.muli v98 c1_i32_1663
  let v1354 : BitVec 32 := Scalar.addi c0_i32_1664 v1353
  v1354.toNat
def k0_dev26 (d0 : Dev nD) : Nat :=
  let c0_i32_1710 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_1709 : BitVec 32 := 1#32
  let v1380 : BitVec 32 := Scalar.muli v146 c1_i32_1709
  let v1381 : BitVec 32 := Scalar.addi c0_i32_1710 v1380
  v1381.toNat
def k0_dev27 (d0 : Dev nD) : Nat :=
  let c0_i32_1976 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_1975 : BitVec 32 := 1#32
  let v1635 : BitVec 32 := Scalar.muli v146 c1_i32_1975
  let v1636 : BitVec 32 := Scalar.addi c0_i32_1976 v1635
  v1636.toNat
def k0_dev28 (d0 : Dev nD) : Nat :=
  let c0_i32_2022 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_2021 : BitVec 32 := 1#32
  let v1662 : BitVec 32 := Scalar.muli v98 c1_i32_2021
  let v1663 : BitVec 32 := Scalar.addi c0_i32_2022 v1662
  v1663.toNat
def k0_dev29 (d0 : Dev nD) : Nat :=
  let c0_i32_2068 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_2067 : BitVec 32 := 1#32
  let v1689 : BitVec 32 := Scalar.muli v98 c1_i32_2067
  let v1690 : BitVec 32 := Scalar.addi c0_i32_2068 v1689
  v1690.toNat
def k0_dev30 (d0 : Dev nD) : Nat :=
  let c0_i32_2114 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_2113 : BitVec 32 := 1#32
  let v1716 : BitVec 32 := Scalar.muli v146 c1_i32_2113
  let v1717 : BitVec 32 := Scalar.addi c0_i32_2114 v1716
  v1717.toNat
def k0_dev31 (d0 : Dev nD) : Nat :=
  let c0_i32_2160 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_2159 : BitVec 32 := 1#32
  let v1743 : BitVec 32 := Scalar.muli v146 c1_i32_2159
  let v1744 : BitVec 32 := Scalar.addi c0_i32_2160 v1743
  v1744.toNat
def k0_dev32 (d0 : Dev nD) : Nat :=
  let c0_i32_2206 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_2205 : BitVec 32 := 1#32
  let v1770 : BitVec 32 := Scalar.muli v98 c1_i32_2205
  let v1771 : BitVec 32 := Scalar.addi c0_i32_2206 v1770
  v1771.toNat
def k0_dev33 (d0 : Dev nD) : Nat :=
  let c0_i32_2252 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_2251 : BitVec 32 := 1#32
  let v1797 : BitVec 32 := Scalar.muli v98 c1_i32_2251
  let v1798 : BitVec 32 := Scalar.addi c0_i32_2252 v1797
  v1798.toNat
def k0_dev34 (d0 : Dev nD) : Nat :=
  let c0_i32_2298 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_2297 : BitVec 32 := 1#32
  let v1824 : BitVec 32 := Scalar.muli v146 c1_i32_2297
  let v1825 : BitVec 32 := Scalar.addi c0_i32_2298 v1824
  v1825.toNat
def k0_dev35 (d0 : Dev nD) : Nat :=
  let c0_i32_2563 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_2562 : BitVec 32 := 1#32
  let v2079 : BitVec 32 := Scalar.muli v146 c1_i32_2562
  let v2080 : BitVec 32 := Scalar.addi c0_i32_2563 v2079
  v2080.toNat
def k0_dev36 (d0 : Dev nD) : Nat :=
  let c0_i32_2609 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_2608 : BitVec 32 := 1#32
  let v2106 : BitVec 32 := Scalar.muli v98 c1_i32_2608
  let v2107 : BitVec 32 := Scalar.addi c0_i32_2609 v2106
  v2107.toNat
def k0_dev37 (d0 : Dev nD) : Nat :=
  let c0_i32_2655 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_2654 : BitVec 32 := 1#32
  let v2133 : BitVec 32 := Scalar.muli v98 c1_i32_2654
  let v2134 : BitVec 32 := Scalar.addi c0_i32_2655 v2133
  v2134.toNat
def k0_dev38 (d0 : Dev nD) : Nat :=
  let c0_i32_2701 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_2700 : BitVec 32 := 1#32
  let v2160 : BitVec 32 := Scalar.muli v146 c1_i32_2700
  let v2161 : BitVec 32 := Scalar.addi c0_i32_2701 v2160
  v2161.toNat
def k0_dev39 (d0 : Dev nD) : Nat :=
  let c0_i32_2747 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_2746 : BitVec 32 := 1#32
  let v2187 : BitVec 32 := Scalar.muli v146 c1_i32_2746
  let v2188 : BitVec 32 := Scalar.addi c0_i32_2747 v2187
  v2188.toNat
def k0_dev40 (d0 : Dev nD) : Nat :=
  let c0_i32_2793 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_2792 : BitVec 32 := 1#32
  let v2214 : BitVec 32 := Scalar.muli v98 c1_i32_2792
  let v2215 : BitVec 32 := Scalar.addi c0_i32_2793 v2214
  v2215.toNat
def k0_dev41 (d0 : Dev nD) : Nat :=
  let c0_i32_2839 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_2838 : BitVec 32 := 1#32
  let v2241 : BitVec 32 := Scalar.muli v98 c1_i32_2838
  let v2242 : BitVec 32 := Scalar.addi c0_i32_2839 v2241
  v2242.toNat
def k0_dev42 (d0 : Dev nD) : Nat :=
  let c0_i32_2885 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_2884 : BitVec 32 := 1#32
  let v2268 : BitVec 32 := Scalar.muli v146 c1_i32_2884
  let v2269 : BitVec 32 := Scalar.addi c0_i32_2885 v2268
  v2269.toNat
def k0_dev43 (d0 : Dev nD) : Nat :=
  let c0_i32_3150 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_3149 : BitVec 32 := 1#32
  let v2523 : BitVec 32 := Scalar.muli v146 c1_i32_3149
  let v2524 : BitVec 32 := Scalar.addi c0_i32_3150 v2523
  v2524.toNat
def k0_dev44 (d0 : Dev nD) : Nat :=
  let c0_i32_3196 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_3195 : BitVec 32 := 1#32
  let v2550 : BitVec 32 := Scalar.muli v98 c1_i32_3195
  let v2551 : BitVec 32 := Scalar.addi c0_i32_3196 v2550
  v2551.toNat
def k0_dev45 (d0 : Dev nD) : Nat :=
  let c0_i32_3242 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_3241 : BitVec 32 := 1#32
  let v2577 : BitVec 32 := Scalar.muli v98 c1_i32_3241
  let v2578 : BitVec 32 := Scalar.addi c0_i32_3242 v2577
  v2578.toNat
def k0_dev46 (d0 : Dev nD) : Nat :=
  let c0_i32_3288 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_3287 : BitVec 32 := 1#32
  let v2604 : BitVec 32 := Scalar.muli v146 c1_i32_3287
  let v2605 : BitVec 32 := Scalar.addi c0_i32_3288 v2604
  v2605.toNat
def k0_dev47 (d0 : Dev nD) : Nat :=
  let c0_i32_3334 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_3333 : BitVec 32 := 1#32
  let v2631 : BitVec 32 := Scalar.muli v146 c1_i32_3333
  let v2632 : BitVec 32 := Scalar.addi c0_i32_3334 v2631
  v2632.toNat
def k0_dev48 (d0 : Dev nD) : Nat :=
  let c0_i32_3380 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_3379 : BitVec 32 := 1#32
  let v2658 : BitVec 32 := Scalar.muli v98 c1_i32_3379
  let v2659 : BitVec 32 := Scalar.addi c0_i32_3380 v2658
  v2659.toNat
def k0_dev49 (d0 : Dev nD) : Nat :=
  let c0_i32_3426 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_3425 : BitVec 32 := 1#32
  let v2685 : BitVec 32 := Scalar.muli v98 c1_i32_3425
  let v2686 : BitVec 32 := Scalar.addi c0_i32_3426 v2685
  v2686.toNat
def k0_dev50 (d0 : Dev nD) : Nat :=
  let c0_i32_3472 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_3471 : BitVec 32 := 1#32
  let v2712 : BitVec 32 := Scalar.muli v146 c1_i32_3471
  let v2713 : BitVec 32 := Scalar.addi c0_i32_3472 v2712
  v2713.toNat
def k0_dev51 (d0 : Dev nD) : Nat :=
  let c0_i32_3737 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_3736 : BitVec 32 := 1#32
  let v2967 : BitVec 32 := Scalar.muli v146 c1_i32_3736
  let v2968 : BitVec 32 := Scalar.addi c0_i32_3737 v2967
  v2968.toNat
def k0_dev52 (d0 : Dev nD) : Nat :=
  let c0_i32_3783 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_3782 : BitVec 32 := 1#32
  let v2994 : BitVec 32 := Scalar.muli v98 c1_i32_3782
  let v2995 : BitVec 32 := Scalar.addi c0_i32_3783 v2994
  v2995.toNat
def k0_dev53 (d0 : Dev nD) : Nat :=
  let c0_i32_3829 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_3828 : BitVec 32 := 1#32
  let v3021 : BitVec 32 := Scalar.muli v98 c1_i32_3828
  let v3022 : BitVec 32 := Scalar.addi c0_i32_3829 v3021
  v3022.toNat
def k0_dev54 (d0 : Dev nD) : Nat :=
  let c0_i32_3875 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_3874 : BitVec 32 := 1#32
  let v3048 : BitVec 32 := Scalar.muli v146 c1_i32_3874
  let v3049 : BitVec 32 := Scalar.addi c0_i32_3875 v3048
  v3049.toNat
def k0_dev55 (d0 : Dev nD) : Nat :=
  let c0_i32_3921 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_3920 : BitVec 32 := 1#32
  let v3075 : BitVec 32 := Scalar.muli v146 c1_i32_3920
  let v3076 : BitVec 32 := Scalar.addi c0_i32_3921 v3075
  v3076.toNat
def k0_dev56 (d0 : Dev nD) : Nat :=
  let c0_i32_3967 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_3966 : BitVec 32 := 1#32
  let v3102 : BitVec 32 := Scalar.muli v98 c1_i32_3966
  let v3103 : BitVec 32 := Scalar.addi c0_i32_3967 v3102
  v3103.toNat
def k0_dev57 (d0 : Dev nD) : Nat :=
  let c0_i32_4013 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_4012 : BitVec 32 := 1#32
  let v3129 : BitVec 32 := Scalar.muli v98 c1_i32_4012
  let v3130 : BitVec 32 := Scalar.addi c0_i32_4013 v3129
  v3130.toNat
def k0_dev58 (d0 : Dev nD) : Nat :=
  let c0_i32_4059 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_4058 : BitVec 32 := 1#32
  let v3156 : BitVec 32 := Scalar.muli v146 c1_i32_4058
  let v3157 : BitVec 32 := Scalar.addi c0_i32_4059 v3156
  v3157.toNat
def k0_dev59 (d0 : Dev nD) : Nat :=
  let c0_i32_4214 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_4213 : BitVec 32 := 1#32
  let v3297 : BitVec 32 := Scalar.muli v146 c1_i32_4213
  let v3298 : BitVec 32 := Scalar.addi c0_i32_4214 v3297
  v3298.toNat
def k0_dev60 (d0 : Dev nD) : Nat :=
  let c0_i32_4260 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_4259 : BitVec 32 := 1#32
  let v3324 : BitVec 32 := Scalar.muli v98 c1_i32_4259
  let v3325 : BitVec 32 := Scalar.addi c0_i32_4260 v3324
  v3325.toNat
def k0_dev61 (d0 : Dev nD) : Nat :=
  let c0_i32_4306 : BitVec 32 := 0#32
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let v99 : BitVec 1 := Scalar.cmpi .eq v2 c0_i32_83
  let c4_i32_84 : BitVec 32 := 4#32
  let c0_i32_85 : BitVec 32 := 0#32
  let v100 : BitVec 32 := Scalar.select v99 c4_i32_84 c0_i32_85
  let v101 : BitVec 32 := Scalar.addi c0_i32_86 v100
  let c1_i32_87 : BitVec 32 := 1#32
  let v102 : BitVec 1 := Scalar.cmpi .eq v2 c1_i32_87
  let c0_i32_88 : BitVec 32 := 0#32
  let c0_i32_89 : BitVec 32 := 0#32
  let v103 : BitVec 32 := Scalar.select v102 c0_i32_88 c0_i32_89
  let v104 : BitVec 32 := Scalar.addi v101 v103
  let c2_i32_90 : BitVec 32 := 2#32
  let v105 : BitVec 1 := Scalar.cmpi .eq v2 c2_i32_90
  let c6_i32_91 : BitVec 32 := 6#32
  let c0_i32_92 : BitVec 32 := 0#32
  let v106 : BitVec 32 := Scalar.select v105 c6_i32_91 c0_i32_92
  let v107 : BitVec 32 := Scalar.addi v104 v106
  let c3_i32_93 : BitVec 32 := 3#32
  let v108 : BitVec 1 := Scalar.cmpi .eq v2 c3_i32_93
  let c2_i32_94 : BitVec 32 := 2#32
  let c0_i32_95 : BitVec 32 := 0#32
  let v109 : BitVec 32 := Scalar.select v108 c2_i32_94 c0_i32_95
  let v110 : BitVec 32 := Scalar.addi v107 v109
  let c4_i32_96 : BitVec 32 := 4#32
  let v111 : BitVec 1 := Scalar.cmpi .eq v2 c4_i32_96
  let c8_i32_97 : BitVec 32 := 8#32
  let c0_i32_98 : BitVec 32 := 0#32
  let v112 : BitVec 32 := Scalar.select v111 c8_i32_97 c0_i32_98
  let v113 : BitVec 32 := Scalar.addi v110 v112
  let c5_i32_99 : BitVec 32 := 5#32
  let v114 : BitVec 1 := Scalar.cmpi .eq v2 c5_i32_99
  let c1_i32_100 : BitVec 32 := 1#32
  let c0_i32_101 : BitVec 32 := 0#32
  let v115 : BitVec 32 := Scalar.select v114 c1_i32_100 c0_i32_101
  let v116 : BitVec 32 := Scalar.addi v113 v115
  let c6_i32_102 : BitVec 32 := 6#32
  let v117 : BitVec 1 := Scalar.cmpi .eq v2 c6_i32_102
  let c10_i32_103 : BitVec 32 := 10#32
  let c0_i32_104 : BitVec 32 := 0#32
  let v118 : BitVec 32 := Scalar.select v117 c10_i32_103 c0_i32_104
  let v119 : BitVec 32 := Scalar.addi v116 v118
  let c7_i32_105 : BitVec 32 := 7#32
  let v120 : BitVec 1 := Scalar.cmpi .eq v2 c7_i32_105
  let c3_i32_106 : BitVec 32 := 3#32
  let c0_i32_107 : BitVec 32 := 0#32
  let v121 : BitVec 32 := Scalar.select v120 c3_i32_106 c0_i32_107
  let v122 : BitVec 32 := Scalar.addi v119 v121
  let c8_i32_108 : BitVec 32 := 8#32
  let v123 : BitVec 1 := Scalar.cmpi .eq v2 c8_i32_108
  let c12_i32_109 : BitVec 32 := 12#32
  let c0_i32_110 : BitVec 32 := 0#32
  let v124 : BitVec 32 := Scalar.select v123 c12_i32_109 c0_i32_110
  let v125 : BitVec 32 := Scalar.addi v122 v124
  let c9_i32_111 : BitVec 32 := 9#32
  let v126 : BitVec 1 := Scalar.cmpi .eq v2 c9_i32_111
  let c5_i32_112 : BitVec 32 := 5#32
  let c0_i32_113 : BitVec 32 := 0#32
  let v127 : BitVec 32 := Scalar.select v126 c5_i32_112 c0_i32_113
  let v128 : BitVec 32 := Scalar.addi v125 v127
  let c10_i32_114 : BitVec 32 := 10#32
  let v129 : BitVec 1 := Scalar.cmpi .eq v2 c10_i32_114
  let c14_i32_115 : BitVec 32 := 14#32
  let c0_i32_116 : BitVec 32 := 0#32
  let v130 : BitVec 32 := Scalar.select v129 c14_i32_115 c0_i32_116
  let v131 : BitVec 32 := Scalar.addi v128 v130
  let c11_i32_117 : BitVec 32 := 11#32
  let v132 : BitVec 1 := Scalar.cmpi .eq v2 c11_i32_117
  let c7_i32_118 : BitVec 32 := 7#32
  let c0_i32_119 : BitVec 32 := 0#32
  let v133 : BitVec 32 := Scalar.select v132 c7_i32_118 c0_i32_119
  let v134 : BitVec 32 := Scalar.addi v131 v133
  let c12_i32_120 : BitVec 32 := 12#32
  let v135 : BitVec 1 := Scalar.cmpi .eq v2 c12_i32_120
  let c15_i32_121 : BitVec 32 := 15#32
  let c0_i32_122 : BitVec 32 := 0#32
  let v136 : BitVec 32 := Scalar.select v135 c15_i32_121 c0_i32_122
  let v137 : BitVec 32 := Scalar.addi v134 v136
  let c13_i32_123 : BitVec 32 := 13#32
  let v138 : BitVec 1 := Scalar.cmpi .eq v2 c13_i32_123
  let c9_i32_124 : BitVec 32 := 9#32
  let c0_i32_125 : BitVec 32 := 0#32
  let v139 : BitVec 32 := Scalar.select v138 c9_i32_124 c0_i32_125
  let v140 : BitVec 32 := Scalar.addi v137 v139
  let c14_i32_126 : BitVec 32 := 14#32
  let v141 : BitVec 1 := Scalar.cmpi .eq v2 c14_i32_126
  let c13_i32_127 : BitVec 32 := 13#32
  let c0_i32_128 : BitVec 32 := 0#32
  let v142 : BitVec 32 := Scalar.select v141 c13_i32_127 c0_i32_128
  let v143 : BitVec 32 := Scalar.addi v140 v142
  let c15_i32_129 : BitVec 32 := 15#32
  let v144 : BitVec 1 := Scalar.cmpi .eq v2 c15_i32_129
  let c11_i32_130 : BitVec 32 := 11#32
  let c0_i32_131 : BitVec 32 := 0#32
  let v145 : BitVec 32 := Scalar.select v144 c11_i32_130 c0_i32_131
  let v146 : BitVec 32 := Scalar.addi v143 v145
  let c1_i32_4305 : BitVec 32 := 1#32
  let v3351 : BitVec 32 := Scalar.muli v146 c1_i32_4305
  let v3352 : BitVec 32 := Scalar.addi c0_i32_4306 v3351
  v3352.toNat
def k0_dev62 (d0 : Dev nD) : Nat :=
  let c0_i32_4352 : BitVec 32 := 0#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v51 : BitVec 1 := Scalar.cmpi .eq v2 c0_i32_34
  let c1_i32_35 : BitVec 32 := 1#32
  let c0_i32_36 : BitVec 32 := 0#32
  let v52 : BitVec 32 := Scalar.select v51 c1_i32_35 c0_i32_36
  let v53 : BitVec 32 := Scalar.addi c0_i32_37 v52
  let c1_i32_38 : BitVec 32 := 1#32
  let v54 : BitVec 1 := Scalar.cmpi .eq v2 c1_i32_38
  let c5_i32_39 : BitVec 32 := 5#32
  let c0_i32_40 : BitVec 32 := 0#32
  let v55 : BitVec 32 := Scalar.select v54 c5_i32_39 c0_i32_40
  let v56 : BitVec 32 := Scalar.addi v53 v55
  let c2_i32_41 : BitVec 32 := 2#32
  let v57 : BitVec 1 := Scalar.cmpi .eq v2 c2_i32_41
  let c3_i32_42 : BitVec 32 := 3#32
  let c0_i32_43 : BitVec 32 := 0#32
  let v58 : BitVec 32 := Scalar.select v57 c3_i32_42 c0_i32_43
  let v59 : BitVec 32 := Scalar.addi v56 v58
  let c3_i32_44 : BitVec 32 := 3#32
  let v60 : BitVec 1 := Scalar.cmpi .eq v2 c3_i32_44
  let c7_i32_45 : BitVec 32 := 7#32
  let c0_i32_46 : BitVec 32 := 0#32
  let v61 : BitVec 32 := Scalar.select v60 c7_i32_45 c0_i32_46
  let v62 : BitVec 32 := Scalar.addi v59 v61
  let c4_i32_47 : BitVec 32 := 4#32
  let v63 : BitVec 1 := Scalar.cmpi .eq v2 c4_i32_47
  let c0_i32_48 : BitVec 32 := 0#32
  let c0_i32_49 : BitVec 32 := 0#32
  let v64 : BitVec 32 := Scalar.select v63 c0_i32_48 c0_i32_49
  let v65 : BitVec 32 := Scalar.addi v62 v64
  let c5_i32_50 : BitVec 32 := 5#32
  let v66 : BitVec 1 := Scalar.cmpi .eq v2 c5_i32_50
  let c9_i32_51 : BitVec 32 := 9#32
  let c0_i32_52 : BitVec 32 := 0#32
  let v67 : BitVec 32 := Scalar.select v66 c9_i32_51 c0_i32_52
  let v68 : BitVec 32 := Scalar.addi v65 v67
  let c6_i32_53 : BitVec 32 := 6#32
  let v69 : BitVec 1 := Scalar.cmpi .eq v2 c6_i32_53
  let c2_i32_54 : BitVec 32 := 2#32
  let c0_i32_55 : BitVec 32 := 0#32
  let v70 : BitVec 32 := Scalar.select v69 c2_i32_54 c0_i32_55
  let v71 : BitVec 32 := Scalar.addi v68 v70
  let c7_i32_56 : BitVec 32 := 7#32
  let v72 : BitVec 1 := Scalar.cmpi .eq v2 c7_i32_56
  let c11_i32_57 : BitVec 32 := 11#32
  let c0_i32_58 : BitVec 32 := 0#32
  let v73 : BitVec 32 := Scalar.select v72 c11_i32_57 c0_i32_58
  let v74 : BitVec 32 := Scalar.addi v71 v73
  let c8_i32_59 : BitVec 32 := 8#32
  let v75 : BitVec 1 := Scalar.cmpi .eq v2 c8_i32_59
  let c4_i32_60 : BitVec 32 := 4#32
  let c0_i32_61 : BitVec 32 := 0#32
  let v76 : BitVec 32 := Scalar.select v75 c4_i32_60 c0_i32_61
  let v77 : BitVec 32 := Scalar.addi v74 v76
  let c9_i32_62 : BitVec 32 := 9#32
  let v78 : BitVec 1 := Scalar.cmpi .eq v2 c9_i32_62
  let c13_i32_63 : BitVec 32 := 13#32
  let c0_i32_64 : BitVec 32 := 0#32
  let v79 : BitVec 32 := Scalar.select v78 c13_i32_63 c0_i32_64
  let v80 : BitVec 32 := Scalar.addi v77 v79
  let c10_i32_65 : BitVec 32 := 10#32
  let v81 : BitVec 1 := Scalar.cmpi .eq v2 c10_i32_65
  let c6_i32_66 : BitVec 32 := 6#32
  let c0_i32_67 : BitVec 32 := 0#32
  let v82 : BitVec 32 := Scalar.select v81 c6_i32_66 c0_i32_67
  let v83 : BitVec 32 := Scalar.addi v80 v82
  let c11_i32_68 : BitVec 32 := 11#32
  let v84 : BitVec 1 := Scalar.cmpi .eq v2 c11_i32_68
  let c15_i32_69 : BitVec 32 := 15#32
  let c0_i32_70 : BitVec 32 := 0#32
  let v85 : BitVec 32 := Scalar.select v84 c15_i32_69 c0_i32_70
  let v86 : BitVec 32 := Scalar.addi v83 v85
  let c12_i32_71 : BitVec 32 := 12#32
  let v87 : BitVec 1 := Scalar.cmpi .eq v2 c12_i32_71
  let c8_i32_72 : BitVec 32 := 8#32
  let c0_i32_73 : BitVec 32 := 0#32
  let v88 : BitVec 32 := Scalar.select v87 c8_i32_72 c0_i32_73
  let v89 : BitVec 32 := Scalar.addi v86 v88
  let c13_i32_74 : BitVec 32 := 13#32
  let v90 : BitVec 1 := Scalar.cmpi .eq v2 c13_i32_74
  let c14_i32_75 : BitVec 32 := 14#32
  let c0_i32_76 : BitVec 32 := 0#32
  let v91 : BitVec 32 := Scalar.select v90 c14_i32_75 c0_i32_76
  let v92 : BitVec 32 := Scalar.addi v89 v91
  let c14_i32_77 : BitVec 32 := 14#32
  let v93 : BitVec 1 := Scalar.cmpi .eq v2 c14_i32_77
  let c10_i32_78 : BitVec 32 := 10#32
  let c0_i32_79 : BitVec 32 := 0#32
  let v94 : BitVec 32 := Scalar.select v93 c10_i32_78 c0_i32_79
  let v95 : BitVec 32 := Scalar.addi v92 v94
  let c15_i32_80 : BitVec 32 := 15#32
  let v96 : BitVec 1 := Scalar.cmpi .eq v2 c15_i32_80
  let c12_i32_81 : BitVec 32 := 12#32
  let c0_i32_82 : BitVec 32 := 0#32
  let v97 : BitVec 32 := Scalar.select v96 c12_i32_81 c0_i32_82
  let v98 : BitVec 32 := Scalar.addi v95 v97
  let c1_i32_4351 : BitVec 32 := 1#32
  let v3378 : BitVec 32 := Scalar.muli v98 c1_i32_4351
  let v3379 : BitVec 32 := Scalar.addi c0_i32_4352 v3378
  v3379.toNat
abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ClippedIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Prog.lean ====
/- The kernel's body as a recursion over its transfers.

   The kernel works in eight steps `t`, over four families `f` of transfers and two column blocks `b`;
   family 1 and family 3 take seven steps. A transfer is a `Slot` (f, t, b): it has a place of its own in the
   send buffer, in the receive buffer, and in the two tables of semaphores. -/
module

public import proofs.«01_k».proof.Proof.Gen.KernelIdeal
public import proofs.«01_k».proof.Proof.Gen.KernelIdeal.Launch

@[expose] public section

noncomputable section

namespace Cert.RingProof

open Cert.KernelIdeal Cert.KernelIdeal.Gen
open Idealize.ShloMosaic Idealize.ShloMosaic.TcCoe Idealize.SL.Sem

variable {F : FTy → Type} [FloatOps F]

/-- A transfer: its family, its step, its column block. -/
abbrev Slot : Type := Fin 4 × Fin 8 × Fin 2

/-! ## The buffers -/

abbrev xM : Memref sig .tc .vmem S2048x128 .bf16 := Memref.whole cc0_stg0_0
abbrev wM : Memref sig .tc .vmem S128x2048 .bf16 := Memref.whole cc0_stg1_0
abbrev oM : Memref sig .tc .vmem S128x2048 .f32 := Memref.whole cc0_stg2_0
abbrev sM : Memref sig .tc .vmem S4x8x2x128x512 .bf16 := Memref.whole cc0_scratch0
abbrev rM : Memref sig .tc .vmem S4x8x2x128x512 .bf16 := Memref.whole cc0_scratch1

/-- Where a slot lies in the send and in the receive buffer; -/
abbrev bufOff (i : Slot) : Fin 5 → Nat := ![i.1.val, i.2.1.val, i.2.2.val, 0, 0]
theorem bufOff_inb : ∀ i : Slot, ∀ a, bufOff i a + S1x1x1x128x512.size a ≤ S4x8x2x128x512.size a := by decide +kernel
abbrev bufRect (i : Slot) : Rect S4x8x2x128x512 := Rect.unit (s := S4x8x2x128x512) (bufOff i) S1x1x1x128x512.size (bufOff_inb i)
/-- and in the tables of semaphores. -/
abbrev semOff (i : Slot) : Fin 3 → Nat := ![i.1.val, i.2.1.val, i.2.2.val]
theorem semOff_inb : ∀ i : Slot, ∀ a, semOff i a + S1x1x1.size a ≤ S4x8x2.size a := by decide +kernel
abbrev semRect (i : Slot) : Rect S4x8x2 := Rect.unit (s := S4x8x2) (semOff i) S1x1x1.size (semOff_inb i)

theorem packed : ∀ i : Slot, (bufRect i).PackedRows (EltTy.packing .bf16) := by decide +kernel
theorem words : ∀ i : Slot, (bufRect i).WholeWords (EltTy.packing .bf16) := by decide +kernel

abbrev sendM (i : Slot) : Memref sig .tc .vmem S128x512 .bf16 :=
  (sM.slice (bufRect i) (fun _ => rfl)).squeeze S128x512 squeezes_S1x1x1x128x512_S128x512
abbrev recvM (i : Slot) : Memref sig .tc .vmem S128x512 .bf16 :=
  (rM.slice (bufRect i) (fun _ => rfl)).squeeze S128x512 squeezes_S1x1x1x128x512_S128x512
abbrev sendSem (i : Slot) : DmaSem sig :=
  ((cc0_scratch2.slice (semRect i) : DmaSems sig S1x1x1).squeeze S_ squeezes_S1x1x1_S_ : DmaSems sig S_).sem
abbrev recvSem (i : Slot) : DmaSem sig :=
  ((cc0_scratch3.slice (semRect i) : DmaSems sig S1x1x1).squeeze S_ squeezes_S1x1x1_S_ : DmaSems sig S_).sem
/-- The runtime's barrier semaphore. -/
abbrev barS : Sem sig := (SemArray.scalar (sig.barrier 0 rfl) : Sems sig S_).sem

theorem sendM_words (i : Slot) : (sendM i).view.WordExact :=
  ((Memref.isWhole_whole cc0_scratch0).wordExact_slice rfl _ (words i)).reshape _ _
theorem recvM_words (i : Slot) : (recvM i).view.WordExact :=
  ((Memref.isWhole_whole cc0_scratch1).wordExact_slice rfl _ (words i)).reshape _ _

/-! ## The rows of `x` -/

/-- The rows of `x` family `f` multiplies at step `t`, as the kernel computes where they start. -/
def xOff (d0 : Dev nD) (f : Fin 4) (t : Fin 8) : Fin 2 → Nat :=
  match f with
  | 0 => k0_off1 d0 8#32 (BitVec.ofNat 32 t.val)
  | 1 => k0_off2 d0 7#32 (BitVec.ofNat 32 t.val)
  | 2 => k0_off2 d0 8#32 (BitVec.ofNat 32 t.val)
  | 3 => k0_off1 d0 9#32 (BitVec.ofNat 32 t.val)
theorem xOff_inb : ∀ (d0 : Dev nD) (f : Fin 4) (t : Fin 8), ∀ a, xOff d0 f t a + S128x128.size a ≤ S2048x128.size a := by
  decide +kernel
/-- The rows of the device's own result. -/
def ownOff (d0 : Dev nD) : Fin 2 → Nat := k0_off1 d0 0#32 0#32
theorem ownOff_inb : ∀ (d0 : Dev nD), ∀ a, ownOff d0 a + S128x128.size a ≤ S2048x128.size a := by decide +kernel

abbrev xRect (d0 : Dev nD) (f : Fin 4) (t : Fin 8) : Rect S2048x128 :=
  Rect.unit (s := S2048x128) (xOff d0 f t) S128x128.size (xOff_inb d0 f t)
abbrev ownRect (d0 : Dev nD) : Rect S2048x128 := Rect.unit (s := S2048x128) (ownOff d0) S128x128.size (ownOff_inb d0)
abbrev wRect : Rect S128x2048 := Rect.unit (s := S128x2048) ![0, 0] S128x2048.size inb_S128x2048_S128x2048_0_0

/-! ## The values -/

/-- The left or the right half of the columns of `w`. -/
def half (f : Fin 4) (w : FVec F S128x2048 .bf16) : FVec F S128x1024 .bf16 :=
  match f with
  | 0 | 1 => extractStridedSlice S128x1024 ![0, 0] w slices_S128x2048_o0_0_S128x1024
  | 2 | 3 => extractStridedSlice S128x1024 ![0, 1024] w slices_S128x2048_o0_1024_S128x1024
/-- Rows of `x` times a half of `w`. -/
def part (f : Fin 4) (w : FVec F S128x2048 .bf16) (x : FVec F S128x128 .bf16) : FVec F S128x1024 .f32 :=
  matmul dot_S128x128_S128x1024_S128x1024_1_0_0_1_n_n none (shapeCast S128x128 x shapeCasts_S128x128_S128x128) (half f w)
    (constant S128x1024 .f32 0x00000000#32)
/-- A column block of it. -/
def sub (b : Fin 2) (p : FVec F S128x1024 .f32) : FVec F S128x512 .f32 :=
  match b with
  | 0 => extractStridedSlice S128x512 ![0, 0] p slices_S128x1024_o0_0_S128x512
  | 1 => extractStridedSlice S128x512 ![0, 512] p slices_S128x1024_o0_512_S128x512
/-- A received block added. -/
def plus (v : FVec F S128x512 .f32) (u : FVec F S1x1x1x128x512 .bf16) : FVec F S128x512 .f32 :=
  addf v (extf .f32 (shapeCast S128x512 u shapeCasts_S1x1x1x128x512_S128x512) bitsLt_bf16_f32)
/-- What is stored to be sent. -/
def pack (v : FVec F S128x512 .f32) : FVec F S1x1x1x128x512 .bf16 :=
  shapeCast S1x1x1x128x512 (truncf .bf16 v bitsLt_bf16_f32) shapeCasts_S128x512_S1x1x1x128x512
/-- The closing function. -/
def act (v : FVec F S128x512 .f32) : FVec F S128x512 .f32 := mulf v (logistic v)

/-! ## The program -/

abbrev PR (F : FTy → Type) : Type 1 := Prog (TpuEff nD τ sig (Elt F) Λ₀ .tc) PUnit

/-- The device a family sends to. -/
def target (d0 : Dev nD) (f : Fin 4) : Dev nD :=
  match f with
  | 0 | 3 => ⟨k0_dev2 d0, k0_dev2_lt d0⟩
  | 1 | 2 => ⟨k0_dev1 d0, k0_dev1_lt d0⟩

/-- Store a block in its place of the send buffer and start its transfer. -/
def sendStep (d0 : Dev nD) (i : Slot) (v : FVec F S128x512 .f32) (k : PR F) : PR F :=
  .op (.load sM (bufRect i).toLoadRect (View.loadsAt_vmem h_S1x1x1x128x512)) fun _ =>
  .op (.store sM (bufRect i) (pack v) Finset.univ (View.stores_vmem h_S1x1x1x128x512
    ((Memref.isWhole_whole cc0_scratch0).storeExact_slice rfl _ (packed i)) (fun _ => rfl)) (.inl rfl)) fun _ =>
  .op (.enqueueDma (sendM i) (.remote (Dev.tc (target d0 i.1)) (recvM i) (.dma (sendSem i))) (.dma (recvSem i))
    (sendM_words i) (recvM_words i) ⟨⟨rfl, Or.inl rfl⟩, trivial⟩) fun _ => k

/-- Wait for the block received in a slot. -/
def waitRecv (i : Slot) (k : PR F) : PR F :=
  .op (.waitDma2 (recvSem i) (sendM i) (recvM i) (sendM_words i) (recvM_words i)) fun _ => k
/-- Read it. -/
def readRecv (i : Slot) (k : FVec F S1x1x1x128x512 .bf16 → PR F) : PR F :=
  .op (.load rM (bufRect i).toLoadRect (View.loadsAt_vmem h_S1x1x1x128x512)) fun (u : Vec F S1x1x1x128x512 .bf16) => k u

/-- One transfer: at step 0 the block of the product alone, later the block received at the step before added. -/
def slotStep (d0 : Dev nD) (i : Slot) (v : FVec F S128x512 .f32) (k : PR F) : PR F :=
  match i with
  | (f, ⟨0, h⟩, b) => sendStep d0 (f, ⟨0, h⟩, b) v k
  | (f, ⟨t + 1, h⟩, b) =>
    waitRecv (f, ⟨t, Nat.lt_of_succ_lt h⟩, b) (readRecv (f, ⟨t, Nat.lt_of_succ_lt h⟩, b) fun u =>
      sendStep d0 (f, ⟨t + 1, h⟩, b) (plus v u) k)

/-- The transfers of a list, from the products `p` of their step. -/
def slotSteps (d0 : Dev nD) (p : Fin 4 → FVec F S128x1024 .f32) : List Slot → PR F → PR F
  | [], k => k
  | i :: l, k => slotStep d0 i (sub i.2.2 (p i.1)) (slotSteps d0 p l k)

/-- The products of a step, family by family. -/
def loadX (d0 : Dev nD) (w : FVec F S128x2048 .bf16) (f : Fin 4) (t : Fin 8) (k : FVec F S128x1024 .f32 → PR F) : PR F :=
  .op (.load xM (xRect d0 f t).toLoadRect (View.loadsAt_vmem h_S128x128)) fun (x : Vec F S128x128 .bf16) => k (part f w x)

/-- The transfers of a step in which all families take part; -/
abbrev slots4 (t : Fin 8) : List Slot :=
  [(0, t, 0), (1, t, 0), (2, t, 0), (3, t, 0), (0, t, 1), (1, t, 1), (2, t, 1), (3, t, 1)]
/-- of the last step. -/
abbrev slots2 : List Slot := [(0, 7, 0), (2, 7, 0), (0, 7, 1), (2, 7, 1)]

def step4 (d0 : Dev nD) (w : FVec F S128x2048 .bf16) (t : Fin 8) (k : PR F) : PR F :=
  loadX d0 w 0 t fun p0 => loadX d0 w 1 t fun p1 => loadX d0 w 2 t fun p2 => loadX d0 w 3 t fun p3 =>
    slotSteps d0 ![p0, p1, p2, p3] (slots4 t) k
def step2 (d0 : Dev nD) (w : FVec F S128x2048 .bf16) (k : PR F) : PR F :=
  loadX d0 w 0 7 fun p0 => loadX d0 w 2 7 fun p2 => slotSteps d0 ![p0, p0, p2, p2] slots2 k

/-- The columns of the result: half `h`, block `b`. -/
abbrev outOff (h b : Fin 2) : Fin 2 → Nat := ![0, 1024 * h.val + 512 * b.val]
theorem outOff_inb : ∀ (h b : Fin 2) (a), outOff h b a + S128x512.size a ≤ S128x2048.size a := by decide +kernel
abbrev outRect (h b : Fin 2) : Rect S128x2048 := Rect.unit (s := S128x2048) (outOff h b) S128x512.size (outOff_inb h b)

/-- One block of the result: the own product and what the last transfers of two families brought. -/
def finStep (h b : Fin 2) (i j : Slot) (p : FVec F S128x1024 .f32) (k : PR F) : PR F :=
  waitRecv i (waitRecv j (readRecv i fun u => readRecv j fun u' =>
    .op (.load oM (outRect h b).toLoadRect (View.loadsAt_vmem h_S128x512)) fun _ =>
    .op (.store oM (outRect h b) (act (plus (plus (sub b p) u) u')) Finset.univ (View.stores_vmem_bits_univ h_S128x512 rfl) (.inl rfl))
      fun _ => k))

def loadOwn (d0 : Dev nD) (w : FVec F S128x2048 .bf16) (f : Fin 4) (k : FVec F S128x1024 .f32 → PR F) : PR F :=
  .op (.load xM (ownRect d0).toLoadRect (View.loadsAt_vmem h_S128x128)) fun (x : Vec F S128x128 .bf16) => k (part f w x)

def finish (d0 : Dev nD) (w : FVec F S128x2048 .bf16) (k : PR F) : PR F :=
  loadOwn d0 w 0 fun p0 => loadOwn d0 w 2 fun p2 =>
    finStep 0 0 (0, 7, 0) (1, 6, 0) p0 (finStep 1 0 (2, 7, 0) (3, 6, 0) p2
      (finStep 0 1 (0, 7, 1) (1, 6, 1) p0 (finStep 1 1 (2, 7, 1) (3, 6, 1) p2 k)))

/-- Wait until what was sent from the slots of a list has been read. -/
def waitSends : List Slot → PR F
  | [] => .ret ⟨⟩
  | i :: l => .op (.waitDma2 (sendSem i) (recvM i) (sendM i) (recvM_words i) (sendM_words i)) fun _ => waitSends l

/-- The transfers of a family, by step and block. -/
abbrev famSlots (f : Fin 4) : List Slot :=
  [(f, 0, 0), (f, 0, 1), (f, 1, 0), (f, 1, 1), (f, 2, 0), (f, 2, 1), (f, 3, 0), (f, 3, 1),
    (f, 4, 0), (f, 4, 1), (f, 5, 0), (f, 5, 1), (f, 6, 0), (f, 6, 1)]
abbrev sendOrder : List Slot :=
  famSlots 0 ++ [(0, 7, 0), (0, 7, 1)] ++ famSlots 1 ++ famSlots 2 ++ [(2, 7, 0), (2, 7, 1)] ++ famSlots 3

def steps (d0 : Dev nD) (w : FVec F S128x2048 .bf16) : PR F :=
  step4 d0 w 0 (step4 d0 w 1 (step4 d0 w 2 (step4 d0 w 3 (step4 d0 w 4 (step4 d0 w 5 (step4 d0 w 6 (step2 d0 w
    (finish d0 w (waitSends sendOrder)))))))))

/-- The kernel. -/
def prog : PR F :=
  .op .deviceId fun d0 =>
  .op (.semSignal (Dev.tc ⟨k0_dev1 d0, k0_dev1_lt d0⟩) barS 1) fun _ =>
  .op (.semSignal (Dev.tc ⟨k0_dev2 d0, k0_dev2_lt d0⟩) barS 1) fun _ =>
  .op (.semWait barS 2) fun _ =>
  .op (.load wM wRect.toLoadRect (View.loadsAt_vmem h_S128x2048)) fun (w : Vec F S128x2048 .bf16) =>
    steps d0 (shapeCast S128x2048 w shapeCasts_S128x2048_S128x2048)

set_option maxRecDepth 65536 in
set_option maxHeartbeats 0 in
theorem body_eq : cc0_body (F := F) xM (Memref.isWhole_whole _) wM (Memref.isWhole_whole _) oM (Memref.isWhole_whole _)
    sM (Memref.isWhole_whole _) rM (Memref.isWhole_whole _) cc0_scratch2 cc0_scratch3 = prog (F := F) := rfl

end Cert.RingProof

end
-- ==== Proof.Cells.lean ====
/- The ring, the kernel's semaphores, what each transfer carries, and the schedule of the semaphores.

   Every device has one barrier cell, which both of its neighbours raise by one at entry, and for every transfer
   one send cell and one receive cell. A neighbour's unit on the barrier brings the places of that neighbour's
   receive buffer the device will write to. A transfer raises the sender's send cell, giving its place of the send
   buffer back, and the receiver's receive cell, giving it the place of its receive buffer with the block in it. -/
module

public import proofs.«01_k».proof.Proof.Prog
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring -/

/-- The next device along the ring and the one before. -/
def rgt (c : Dev nD) : Dev nD := ⟨k0_dev1 c, k0_dev1_lt c⟩
def lft (c : Dev nD) : Dev nD := ⟨k0_dev2 c, k0_dev2_lt c⟩

theorem lft_rgt : ∀ c, lft (rgt c) = c := by decide +kernel
theorem rgt_lft : ∀ c, rgt (lft c) = c := by decide +kernel

def ring : Dev nD ≃ Dev nD := ⟨rgt, lft, lft_rgt, rgt_lft⟩

/-- The families that go to the next device. -/
def right (f : Fin 4) : Bool := match f with
  | 0 | 3 => false
  | 1 | 2 => true

/-- Where a device receives a family from. -/
def source (c : Dev nD) (f : Fin 4) : Dev nD := if right f then lft c else rgt c

theorem target_eq (c : Dev nD) (f : Fin 4) : target c f = if right f then rgt c else lft c := by
  fin_cases f <;> rfl
theorem source_target (c : Dev nD) (f : Fin 4) : source (target c f) f = c := by
  rw [target_eq]; unfold source; cases right f
  · exact rgt_lft c
  · exact lft_rgt c
theorem target_source (c : Dev nD) (f : Fin 4) : target (source c f) f = c := by
  rw [target_eq]; unfold source; cases right f
  · exact lft_rgt c
  · exact rgt_lft c
/-- Each family permutes the devices. -/
def along (f : Fin 4) : Dev nD ≃ Dev nD :=
  ⟨fun c => target c f, fun c => source c f, fun c => source_target c f, fun c => target_source c f⟩

/-- The slots that carry a transfer. -/
def used (i : Slot) : Bool := !(i.2.1 == 7 && (i.1 == 1 || i.1 == 3))
abbrev usedSlots : Finset Slot := Finset.univ.filter fun i => used i = true
abbrev dirSlots (d : Bool) : Finset Slot := Finset.univ.filter fun i => used i = true ∧ right i.1 = d

/-! ## The semaphores -/

inductive Role where
  | bar
  | send (i : Slot)
  | recv (i : Slot)
  | other
  deriving DecidableEq

def slotAt (n : ℕ) : Slot := (Fin.ofNat 4 (n / 16), Fin.ofNat 8 (n / 2), Fin.ofNat 2 n)

/-- What a semaphore is for. -/
def role : SemLoc sig → Role
  | .reg _ => .bar
  | .dma q => if q.val < 3 then .other else if q.val < 67 then .send (slotAt (q.val - 3)) else .recv (slotAt (q.val - 67))

theorem role_bar : role (.reg barS) = .bar := rfl
theorem role_send : ∀ i : Slot, role (.dma (sendSem i)) = .send i := by decide +kernel
theorem role_recv : ∀ i : Slot, role (.dma (recvSem i)) = .recv i := by decide +kernel

abbrev barCell (c : Dev nD) : GSem nD τ sig := ((c : Thread nD τ), .reg barS)
abbrev sendCell (c : Dev nD) (i : Slot) : GSem nD τ sig := ((c : Thread nD τ), .dma (sendSem i))
abbrev recvCell (c : Dev nD) (i : Slot) : GSem nD τ sig := ((c : Thread nD τ), .dma (recvSem i))

/-- A device's cells: the barrier, the send cells, the receive cells. -/
abbrev CIx : Type := Unit ⊕ (Slot ⊕ Slot)
abbrev csem : CIx → SemLoc sig
  | .inl _ => .reg barS
  | .inr (.inl i) => .dma (sendSem i)
  | .inr (.inr i) => .dma (recvSem i)
abbrev kcell (ck : Dev nD × CIx) : GSem nD τ sig := ((ck.1 : Thread nD τ), csem ck.2)
abbrev kB : CIx := .inl ()
abbrev kS (i : Slot) : CIx := .inr (.inl i)
abbrev kR (i : Slot) : CIx := .inr (.inr i)

/-- The credit of one transfer. -/
abbrev N : ℕ := (recvM (0, 0, 0)).view.dmaCredit
theorem N_pos : 0 < N := View.dmaCredit_pos _ (by decide)

/-! ## What the transfers carry -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The staged blocks of the two operands. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The weights a device loads; -/
def wts (c : Dev nD) : FVec F S128x2048 .bf16 :=
  shapeCast S128x2048 (wM.view.readAt (Elt F) wRect.toLoadRect (wstg m c)) shapeCasts_S128x2048_S128x2048
/-- the product of family `f` at step `t`; -/
def prod (c : Dev nD) (f : Fin 4) (t : Fin 8) : FVec F S128x1024 .f32 :=
  part f (wts m c) (xM.view.readAt (Elt F) (xRect c f t).toLoadRect (xstg m c))
/-- the product for the device's own rows; -/
def own (c : Dev nD) (f : Fin 4) : FVec F S128x1024 .f32 :=
  part f (wts m c) (xM.view.readAt (Elt F) (ownRect c).toLoadRect (xstg m c))
/-- the block a device sends at each step: its product and, after the first step, the block it received; -/
def msg (f : Fin 4) (b : Fin 2) : (t : ℕ) → (h : t < 8) → Dev nD → FVec F S1x1x1x128x512 .bf16
  | 0, h, c => pack (sub b (prod m c f ⟨0, h⟩))
  | t + 1, h, c => pack (plus (sub b (prod m c f ⟨t + 1, h⟩)) (msg f b t (Nat.lt_of_succ_lt h) (source c f)))
/-- what a device sends from a slot; -/
def sent (c : Dev nD) (i : Slot) : FVec F S1x1x1x128x512 .bf16 := msg m i.1 i.2.2 i.2.1.val i.2.1.isLt c
/-- what it receives in a slot. -/
def got (c : Dev nD) (i : Slot) : FVec F S1x1x1x128x512 .bf16 := sent m (source c i.1) i

/-- A place of the send buffer, of the receive buffer. -/
def sendPts (c : Dev nD) (i : Slot) (f : Buf (Elt F) ((sendM i).view.loc (c : Thread nD τ))) : sProp 𝕄 :=
  (sendM i).view.loc (c : Thread nD τ) ↦[(sendM i).view.set]{fullShare} f
def recvPts (c : Dev nD) (i : Slot) (f : Buf (Elt F) ((recvM i).view.loc (c : Thread nD τ))) : sProp 𝕄 :=
  (recvM i).view.loc (c : Thread nD τ) ↦[(recvM i).view.set]{fullShare} f

/-- The same at any contents; -/
def sendAny (c : Dev nD) (i : Slot) : sProp 𝕄 := iprop(∃ f, sendPts c i f)
def recvAny (c : Dev nD) (i : Slot) : sProp 𝕄 := iprop(∃ f, recvPts c i f)
/-- the receive place with its block in it. -/
def recvGot (c : Dev nD) (i : Slot) : sProp 𝕄 :=
  iprop(∃ f, ⌜rM.view.readAt (Elt F) (bufRect i).toLoadRect f = got m c i⌝ ∗ recvPts c i f)
/-- The receive places a neighbour of `c` opens to it. -/
def barPay (c : Dev nD) (d : Bool) : sProp 𝕄 := bigSep (dirSlots d) fun i => recvAny (target c i.1) i

omit [FloatOps F] in
instance sendAny_storable (c : Dev nD) (i : Slot) : BI.Storable (upEmb : UEmb _ 𝕄) (sendAny (F := F) c i) := by
  unfold sendAny sendPts; infer_instance
omit [FloatOps F] in
instance recvAny_storable (c : Dev nD) (i : Slot) : BI.Storable (upEmb : UEmb _ 𝕄) (recvAny (F := F) c i) := by
  unfold recvAny recvPts; infer_instance
instance recvGot_storable (c : Dev nD) (i : Slot) : BI.Storable (upEmb : UEmb _ 𝕄) (recvGot m c i) := by
  unfold recvGot recvPts; infer_instance
omit [FloatOps F] in
instance barPay_storable (c : Dev nD) (d : Bool) : BI.Storable (upEmb : UEmb _ 𝕄) (barPay (F := F) c d) := by
  unfold barPay; infer_instance

/-! ## The schedule -/

def dutiesOf : Role → Finset Bool
  | .bar => Finset.univ
  | .send i | .recv i => if used i then {false} else ∅
  | .other => ∅
def amountOf : Role → ℕ
  | .bar => 1
  | _ => N
def payloadOf (c : Dev nD) (d : Bool) : Role → sProp 𝕄
  | .bar => barPay c d
  | .send i => sendAny c i
  | .recv i => recvGot m c i
  | .other => iprop(emp)

def rd : Rounds.Schedule (GSem nD τ sig) Bool 𝕄 where
  duties g r := if r = 0 ∧ g.1.2 = .tc then dutiesOf (role g.2) else ∅
  unitless _ := False
  amount g _ _ := amountOf (role g.2)
  payload g _ d := payloadOf m g.1.1 d (role g.2)
  amount_pos g _ _ _ := by
    rcases role g.2 with _ | _ | _ | _
    · exact Nat.one_pos
    all_goals exact N_pos

instance rd_payload_storable (g : GSem nD τ sig) (r : ℕ) (d : Bool) :
    BI.Storable (upEmb : UEmb _ 𝕄) ((rd m).payload g r d) := by
  show BI.Storable upEmb (payloadOf m g.1.1 d (role g.2))
  unfold payloadOf
  split <;> infer_instance

section Sched
variable (c : Dev nD) (i : Slot)

theorem duties_bar : (rd m).duties (barCell c) 0 = Finset.univ := by dsimp only [rd]; exact if_pos ⟨rfl, rfl⟩
theorem duties_send : (rd m).duties (sendCell c i) 0 = if used i then {false} else ∅ :=
  by dsimp only [rd]; rw [if_pos ⟨rfl, rfl⟩, role_send]; rfl
theorem duties_recv : (rd m).duties (recvCell c i) 0 = if used i then {false} else ∅ :=
  by dsimp only [rd]; rw [if_pos ⟨rfl, rfl⟩, role_recv]; rfl
theorem duties_later (g : GSem nD τ sig) : ∀ r, 1 ≤ r → (rd m).duties g r = ∅ :=
  fun r hr => by dsimp only [rd]; exact if_neg fun h => by omega
theorem duties_unused_send (h : used i = false) : ∀ r, 0 ≤ r → (rd m).duties (sendCell c i) r = ∅ := fun r _ => by
  rcases Nat.eq_zero_or_pos r with rfl | hr
  · rw [duties_send, h]; rfl
  · exact duties_later m _ r hr
theorem duties_unused_recv (h : used i = false) : ∀ r, 0 ≤ r → (rd m).duties (recvCell c i) r = ∅ := fun r _ => by
  rcases Nat.eq_zero_or_pos r with rfl | hr
  · rw [duties_recv, h]; rfl
  · exact duties_later m _ r hr

theorem amount_bar (d : Bool) : (rd m).amount (barCell c) 0 d = 1 := rfl
theorem amount_send (d : Bool) : (rd m).amount (sendCell c i) 0 d = N := by
  show amountOf (role (.dma (sendSem i))) = N; rw [role_send]; rfl
theorem amount_recv (d : Bool) : (rd m).amount (recvCell c i) 0 d = N := by
  show amountOf (role (.dma (recvSem i))) = N; rw [role_recv]; rfl

theorem expect_bar : (rd m).expect (barCell c) 0 = 2 := by
  unfold Schedule.expect Schedule.amountOf
  rw [duties_bar, Finset.sum_congr rfl fun d _ => amount_bar m c d, Finset.sum_const, Finset.card_univ, Fintype.card_bool, smul_eq_mul]
theorem expect_send (h : used i = true) : (rd m).expect (sendCell c i) 0 = N := by
  unfold Schedule.expect Schedule.amountOf; rw [duties_send, h, if_pos rfl, Finset.sum_singleton, amount_send]
theorem expect_recv (h : used i = true) : (rd m).expect (recvCell c i) 0 = N := by
  unfold Schedule.expect Schedule.amountOf; rw [duties_recv, h, if_pos rfl, Finset.sum_singleton, amount_recv]

theorem payload_bar (d : Bool) : (rd m).payload (barCell c) 0 d = barPay c d := rfl
theorem payload_send (d : Bool) : (rd m).payload (sendCell c i) 0 d = sendAny c i := by
  show payloadOf m c d (role (.dma (sendSem i))) = _; rw [role_send]; rfl
theorem payload_recv (d : Bool) : (rd m).payload (recvCell c i) 0 d = recvGot m c i := by
  show payloadOf m c d (role (.dma (recvSem i))) = _; rw [role_recv]; rfl

theorem rest_bar : bigSep ((rd m).duties (barCell c) 0 \ ∅) (fun d => (rd m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (h : used i = true) :
    bigSep ((rd m).duties (sendCell c i) 0 \ ∅) (fun d => (rd m).payload (sendCell c i) 0 d) = sendAny c i := by
  rw [Finset.sdiff_empty, duties_send, h, if_pos rfl, bigSep_singleton, payload_send]
theorem rest_recv (h : used i = true) :
    bigSep ((rd m).duties (recvCell c i) 0 \ ∅) (fun d => (rd m).payload (recvCell c i) 0 d) = recvGot m c i := by
  rw [Finset.sdiff_empty, duties_recv, h, if_pos rfl, bigSep_singleton, payload_recv]

end Sched

/-! ## What a device owes; the levels -/

/-- The receive credits a device owes for the transfers of a list. -/
def owed (c : Dev nD) : List Slot → CellTallies nD τ sig Unit
  | [] => 0
  | i :: l => owed c l + tallyAt (recvCell (target c i.1) i) () N

theorem owed_pos {c : Dev nD} {l : List Slot} {g : GSem nD τ sig} {u : Unit} (h : 0 < owed c l g u) :
    ∃ i ∈ l, g = recvCell (target c i.1) i := by
  induction l with
  | nil => exact absurd h (Nat.lt_irrefl 0)
  | cons i l ih =>
    unfold owed at h
    rw [Pi.add_apply, Finsupp.add_apply, tallyAt_apply] at h
    by_cases hg : g = recvCell (target c i.1) i ∧ u = ()
    · exact ⟨i, List.mem_cons_self, hg.1⟩
    · rw [if_neg hg, Nat.add_zero] at h
      obtain ⟨j, hj, e⟩ := ih h
      exact ⟨j, List.mem_cons_of_mem _ hj, e⟩

def L (g : GSem nD τ sig) : Finset Unit := if g.1.2 = .tc then {()} else ∅
def levelOf : Role → ℕ
  | .bar => 1
  | .recv i => 2 + i.2.1.val
  | _ => 0
/-- The staging and send cells lowest, then the barrier, then the receive cells step by step. -/
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Slot) (u : Unit) : lv (recvCell c i) u = 2 + i.2.1.val := by
  show levelOf (role (.dma (recvSem i))) = _; rw [role_recv]; rfl

/-- A device may wait on a cell below every transfer it still owes. -/
theorem mayWait_owed (c : Dev nD) (sm : SemLoc sig) (l : List Slot) (h : ∀ i ∈ l, levelOf (role sm) < 2 + i.2.1.val) :
    (levAts L lv : sProp 𝕄) ⊢ MayWait (c : Thread nD τ) sm () (owed c l) :=
  MayOwe.of_cut (L := L) (lev := lv) (levelOf (role sm))
    (fun p hp => by rw [Finset.mem_singleton.mp hp, L_tc]; exact Finset.mem_singleton_self _)
    (fun g u hg => by obtain ⟨i, _, rfl⟩ := owed_pos hg; rw [L_tc]; exact Finset.mem_singleton_self _)
    (fun p hp => by rw [Finset.mem_singleton.mp hp]; exact le_refl _)
    (fun g u hg => by obtain ⟨i, hi, rfl⟩ := owed_pos hg; rw [lv_recv]; exact h i hi)

/-- The transfers in the order the kernel starts them. -/
abbrev order : List Slot :=
  slots4 0 ++ (slots4 1 ++ (slots4 2 ++ (slots4 3 ++ (slots4 4 ++ (slots4 5 ++ (slots4 6 ++ slots2))))))

/-- A device owes its transfers and, at entry, a unit to each neighbour. -/
def O₁ (c : Dev nD) : CellTallies nD τ sig Unit := owed c order + tallyAt (barCell (lft c)) () 1
def O₀ (c : Dev nD) : CellTallies nD τ sig Unit := O₁ c + tallyAt (barCell (rgt c)) () 1

theorem O₀_pos {c : Dev nD} {g : GSem nD τ sig} {u : Unit} (h : 0 < O₀ c g u) :
    (∃ i, g = recvCell (target c i.1) i) ∨ (∃ d, g = barCell d) := by
  unfold O₀ O₁ at h
  rw [Pi.add_apply, Finsupp.add_apply, Pi.add_apply, Finsupp.add_apply, tallyAt_apply, tallyAt_apply] at h
  by_cases h1 : g = barCell (lft c) ∧ u = ()
  · exact .inr ⟨_, h1.1⟩
  by_cases h2 : g = barCell (rgt c) ∧ u = ()
  · exact .inr ⟨_, h2.1⟩
  rw [if_neg h1, if_neg h2] at h
  obtain ⟨i, _, e⟩ := owed_pos (show 0 < owed c order g u from h)
  exact .inl ⟨i, e⟩

/-- While it copies its blocks in and out a device may owe all of it, or nothing. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨d, rfl⟩ <;> exact Finset.mem_singleton_self _)
      (fun p hp => by
        rw [Finset.mem_singleton.mp hp]; show levelOf (role (.dma q)) ≤ 0; rw [hq]; exact le_refl _)
      (fun g u hg => by
        rcases O₀_pos hg with ⟨i, rfl⟩ | ⟨d, rfl⟩
        · rw [lv_recv]; omega
        · exact Nat.one_pos)
  · rw [MayWait_zero]; iintro -; iempintro

end Cert.RingProof

end
-- ==== Proof.Slots.lean ====
/- The send and the receive buffer, place by place: the places are disjoint and fill the buffer; what is stored
   in a place of the send buffer is what a load of the receiver's place reads after the transfer. -/
module

public import proofs.«01_k».proof.Proof.Cells
public import Idealize.ShloMosaic.Lib.Ring

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ UU ℕ

theorem send_set (i : Slot) : (sendM i).view.set = (bufRect i).set :=
  (View.set_reshape (v := sM.view.slice (bufRect i)) _).trans (View.set_slice_whole cc0_scratch0 (bufRect i))
theorem recv_set (i : Slot) : (recvM i).view.set = (bufRect i).set :=
  (View.set_reshape (v := rM.view.slice (bufRect i)) _).trans (View.set_slice_whole cc0_scratch1 (bufRect i))

theorem place_disjoint (i j : Slot) (h : i ≠ j) : Disjoint (bufRect i).set (bufRect j).set := by
  rw [Finset.disjoint_left]
  intro y hy hy'
  have h1 := Rect.mem_set_unit.mp hy
  have h2 := Rect.mem_set_unit.mp hy'
  refine h (Prod.ext (Fin.ext ?_) (Prod.ext (Fin.ext ?_) (Fin.ext ?_)))
  · have a := h1 0; have b := h2 0
    simp only [bufOff, Shape.size, Matrix.cons_val_zero] at a b; omega
  · have a := h1 1; have b := h2 1
    simp only [bufOff, Shape.size, Matrix.cons_val_one, Matrix.cons_val_zero] at a b; omega
  · have a := h1 2; have b := h2 2
    simp only [bufOff, Shape.size, Matrix.cons_val] at a b; omega

theorem place_cover : Finset.univ.biUnion (fun i : Slot => (bufRect i).set) = Finset.univ := by
  ext y
  simp only [Finset.mem_biUnion, Finset.mem_univ, true_and, iff_true]
  refine ⟨(⟨(y 0).val, (y 0).isLt⟩, ⟨(y 1).val, (y 1).isLt⟩, ⟨(y 2).val, (y 2).isLt⟩), Rect.mem_set_unit.mpr fun a => ?_⟩
  have := (y a).isLt
  fin_cases a
  · exact ⟨le_refl _, Nat.lt_succ_self _⟩
  · exact ⟨le_refl _, Nat.lt_succ_self _⟩
  · exact ⟨le_refl _, Nat.lt_succ_self _⟩
  · exact ⟨Nat.zero_le _, by simpa [bufOff] using this⟩
  · exact ⟨Nat.zero_le _, by simpa [bufOff] using this⟩

omit [FloatOps F] in
theorem send_any (c : Dev nD) (i : Slot) (f : Buf (Elt F) ((sendM i).view.loc (c : Thread nD τ))) :
    (sendPts c i f : sProp 𝕄) ⊢ sendAny c i := by
  unfold sendAny; iintro H; iexists f; iexact H
omit [FloatOps F] in
theorem recv_any (c : Dev nD) (i : Slot) (f : Buf (Elt F) ((recvM i).view.loc (c : Thread nD τ))) :
    (recvPts c i f : sProp 𝕄) ⊢ recvAny c i := by
  unfold recvAny; iintro H; iexists f; iexact H

omit [FloatOps F] in
/-- The send buffer whole is its places; -/
theorem send_split (c : Dev nD) (f : Buf (Elt F) ((c : Thread nD τ).loc cc0_scratch0)) :
    (((c : Thread nD τ).loc cc0_scratch0) ↦{fullShare} f : sProp 𝕄) ⊢ bigSep Finset.univ fun i => sendAny c i := by
  rw [pointsTo_blocks (fun i : Slot => (bufRect i).set) place_disjoint place_cover f]
  refine bigSep_mono fun i _ => ?_
  refine Entails.trans (Entails.of_eq ?_) (send_any c i f)
  unfold sendPts; rw [send_set]
omit [FloatOps F] in
theorem recv_split (c : Dev nD) (f : Buf (Elt F) ((c : Thread nD τ).loc cc0_scratch1)) :
    (((c : Thread nD τ).loc cc0_scratch1) ↦{fullShare} f : sProp 𝕄) ⊢ bigSep Finset.univ fun i => recvAny c i := by
  rw [pointsTo_blocks (fun i : Slot => (bufRect i).set) place_disjoint place_cover f]
  refine bigSep_mono fun i _ => ?_
  refine Entails.trans (Entails.of_eq ?_) (recv_any c i f)
  unfold recvPts; rw [recv_set]

/-- and its places together are the buffer. -/
theorem send_join (c : Dev nD) :
    (bigSep Finset.univ fun i => sendAny c i : sProp 𝕄) ⊢ iprop(∃ f, ((c : Thread nD τ).loc cc0_scratch0) ↦{fullShare} f) := by
  refine (Entails.of_eq (bigSep_congr fun i _ => ?_)).trans
    (pointsTo_blocks_join_exists (fun i : Slot => (bufRect i).set) place_disjoint place_cover
      (fun _ => (FloatOps.ofBits .bf16 0 : F .bf16) : Buf (Elt F) ((c : Thread nD τ).loc cc0_scratch0)))
  unfold sendAny sendPts; rw [send_set]
theorem recv_join (c : Dev nD) :
    (bigSep Finset.univ fun i => recvAny c i : sProp 𝕄) ⊢ iprop(∃ f, ((c : Thread nD τ).loc cc0_scratch1) ↦{fullShare} f) := by
  refine (Entails.of_eq (bigSep_congr fun i _ => ?_)).trans
    (pointsTo_blocks_join_exists (fun i : Slot => (bufRect i).set) place_disjoint place_cover
      (fun _ => (FloatOps.ofBits .bf16 0 : F .bf16) : Buf (Elt F) ((c : Thread nD τ).loc cc0_scratch1)))
  unfold recvAny recvPts; rw [recv_set]

/-! ## Loads, stores and transfers of a place -/

theorem load_send (i : Slot) : sM.view.setOn (bufRect i).toLoadRect.set ⊆ (sendM i).view.set := by
  rw [send_set]
  intro y hy
  obtain ⟨z, hz, rfl⟩ := Finset.mem_map.mp hy
  exact hz
theorem load_recv (i : Slot) : rM.view.setOn (bufRect i).toLoadRect.set ⊆ (recvM i).view.set := by
  rw [recv_set]
  intro y hy
  obtain ⟨z, hz, rfl⟩ := Finset.mem_map.mp hy
  exact hz
theorem store_send (i : Slot) : (sM.access (bufRect i)).setOn Finset.univ ⊆ (sendM i).view.set := by
  rw [View.set_reshape (v := sM.view.slice (bufRect i))]
  exact Finset.Subset.refl _

/-- What one reshaped view writes of what another reads, read through the view itself. -/
theorem read_write_reshape {sig : RefSig} {κ κ' : Kind} {sp sp' : Space} {s s' : Shape} {e : EltTy} {Val : EltTy → Type}
    (v : View sig κ sp s e) (v' : View sig κ' sp' s e) (h : s'.numel = s.numel) (fd : v.ty.Contents Val) (fs : v'.ty.Contents Val) :
    v.read Val ((v.reshape s' h).write Val fd ((v'.reshape s' h).read Val fs) Finset.univ) = v'.read Val fs := by
  funext y
  obtain ⟨x, rfl⟩ := (Shape.reshapeEquiv h).surjective y
  exact View.read_write_of_mem (v := v.reshape s' h) fd _ (Finset.mem_univ x)

theorem landed (i : Slot) (w : FVec F S1x1x1x128x512 .bf16) (fs : cc0_scratch0.ty.Contents (Elt F)) (fd : cc0_scratch1.ty.Contents (Elt F)) :
    rM.view.readAt (Elt F) (bufRect i).toLoadRect
      ((recvM i).view.write (Elt F) fd ((sendM i).view.read (Elt F) ((sM.access (bufRect i)).write (Elt F) fs w Finset.univ)) Finset.univ)
      = w := by
  refine (read_write_reshape (rM.view.slice (bufRect i)) (sM.view.slice (bufRect i)) _ fd _).trans ?_
  exact View.read_write_univ (v := sM.view.slice (bufRect i)) _ _

end Cert.RingProof

end
-- ==== Proof.Steps.lean ====
/- The kernel's steps, one transfer at a time: a transfer sent, a block waited for, a place read. -/
module

public import proofs.«01_k».proof.Proof.Slots

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The rest of the program runs to `Q` on device `c`. -/
abbrev runs (c : Dev nD) (k : PR F) (Q : PUnit → sProp 𝕄) : sProp 𝕄 :=
  wp frame (wpE (defs₀ (F := F)) 𝒱₀ (c : Thread nD τ) none) Set.univ k Q

/-! ## The records of all cells -/

instance : DecidableEq CIx := inferInstance
instance : DecidableEq (Dev nD × CIx) := instDecidableEqProd

def recs (K : Dev nD × CIx → ℕ) : sProp 𝕄 :=
  iprop((bigSep Finset.univ fun ck : Dev nD × CIx => cellInv ER (rd m) (K ck) (kcell ck))
    ∗ bigSep Finset.univ fun ck : Dev nD × CIx => reached ER (kcell ck) 0)

instance recs_persistent (K : Dev nD × CIx → ℕ) : BI.Persistent (recs m K) := by unfold recs; infer_instance

theorem inv_at (K : Dev nD × CIx → ℕ) (ck : Dev nD × CIx) :
    (bigSep Finset.univ fun ck : Dev nD × CIx => (cellInv ER (rd m) (K ck) (kcell ck) : sProp 𝕄)) ⊢ cellInv ER (rd m) (K ck) (kcell ck) :=
  bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)
theorem recs_inv (K : Dev nD × CIx → ℕ) (ck : Dev nD × CIx) : recs m K ⊢ cellInv ER (rd m) (K ck) (kcell ck) := by
  unfold recs
  iintro ⟨H, -⟩
  iapply (inv_at m K ck); iexact H
theorem recs_reached (K : Dev nD × CIx → ℕ) (ck : Dev nD × CIx) : recs m K ⊢ (reached ER (kcell ck) 0 : sProp 𝕄) := by
  unfold recs
  iintro ⟨-, H⟩
  iapply (reached_at (F := F) ck); iexact H

/-! ## What a transfer needs and leaves -/

/-- To send from slot `i`: its place, its two duties, and the place it goes to. -/
def toSend (c : Dev nD) (i : Slot) : sProp 𝕄 :=
  iprop(sendAny c i ∗ dutyTok ER (sendCell c i) 0 false ∗ dutyTok ER (recvCell (target c i.1) i) 0 false ∗ recvAny (target c i.1) i)
/-- Once sent: the credit to wait for the place with. -/
def toFree (c : Dev nD) (i : Slot) : sProp 𝕄 := cred (tallyAt (sendCell c i) () N)
/-- To wait for the block of slot `i`. -/
def toGet (c : Dev nD) (i : Slot) : sProp 𝕄 := iprop(cred (tallyAt (recvCell c i) () N) ∗ atPos ER (recvCell c i) 0 ∅ 0)
/-- Once received: the place with its block, the cell at zero again. -/
def gotten (c : Dev nD) (i : Slot) : sProp 𝕄 := iprop(recvGot m c i ∗ semVal (recvCell c i) 0)
/-- What a device owes, whatever it has waited for. -/
def owing (c : Dev nD) (O : CellTallies nD τ sig Unit) : sProp 𝕄 := iprop(∃ W, owes (c : Thread nD τ) O W)

variable (K : Dev nD × CIx → ℕ)

theorem credit_recv (i : Slot) : (recvM i).view.amount (.dma (recvSem i)) = N := rfl

/-- The transfer alone, from any contents of the place that arrive as the block to be sent. -/
theorem wp_transfer (c n : Dev nD) (i : Slot) (hn : n = target c i.1) (hu : used i = true)
    (g : Buf (Elt F) ((sendM i).view.loc (c : Thread nD τ))) (fd : Buf (Elt F) ((recvM i).view.loc (n : Thread nD τ)))
    (hg : rM.view.readAt (Elt F) (bufRect i).toLoadRect
      ((recvM i).view.write (Elt F) fd ((sendM i).view.read (Elt F) g) Finset.univ) = sent m c i)
    {hsc : (recvM i : Memref sig (Dev.tc n : Thread nD τ).2.kind .vmem S128x512 .bf16).view.ref.isScScratch = false}
    {hsem : DmaTarget.Typed .vmem (.dma (recvSem i)) (.remote (Dev.tc n : Thread nD τ) (recvM i) (.dma (sendSem i)) hsc)}
    (O : CellTallies nD τ sig Unit) (W : Waits sig Unit) (k : PR F) (Q : PUnit → sProp 𝕄) :
    iprop(cellInv ER (rd m) (K (c, kS i)) (sendCell c i) ∗ cellInv ER (rd m) (K (n, kR i)) (recvCell n i)
        ∗ sendPts c i g ∗ recvPts n i fd
        ∗ owes (c : Thread nD τ) (O + tallyAt (recvCell n i) () N) W
        ∗ dutyTok ER (sendCell c i) 0 false ∗ reached ER (sendCell c i) 0
        ∗ dutyTok ER (recvCell n i) 0 false ∗ reached ER (recvCell n i) 0)
      ⊢ iprop(((toFree c i ∗ owes (c : Thread nD τ) O W) -∗ runs c k Q)
          -∗ runs c (.op (.enqueueDma (sendM i) (.remote (Dev.tc n : Thread nD τ) (recvM i) (.dma (sendSem i)) hsc) (.dma (recvSem i))
              (sendM_words i) (recvM_words i) hsem) fun _ => k) Q) := by
  have hd₁ : false ∈ (rd m).duties (sendCell c i) 0 := by rw [duties_send, hu]; exact Finset.mem_singleton_self _
  have hd₂ : false ∈ (rd m).duties (recvCell n i) 0 := by rw [duties_recv, hu]; exact Finset.mem_singleton_self _
  have hp₁ : sendPts c i g ⊢ (rd m).payload (sendCell c i) 0 false := by rw [payload_send]; exact send_any c i g
  have hp₂ : recvPts n i ((recvM i).view.write (Elt F) fd ((sendM i).view.read (Elt F) g) Finset.univ)
      ⊢ (rd m).payload (recvCell n i) 0 false := by
    rw [payload_recv]; unfold recvGot
    iintro H
    iexists _
    isplitr
    · ipureintro
      refine hg.trans ?_
      unfold got; rw [hn, source_target]
    · iexact H
  clear hg hu hn
  unfold sendPts recvPts toFree at *
  exact Rounds.wp_send_pointsTo 𝒱₀ ER (rd m) (c : Thread nD τ) none (c' := (n : Thread nD τ)) (src := sendM i) (dst := recvM i)
    (κ₁ := K (c, kS i)) (κ₂ := K (n, kR i)) (r₁ := 0) (r₂ := 0) (d₁ := false) (d₂ := false) (fs := g) (fd := fd)
    hd₁ hd₂ () () N (credit_recv i) (amount_send m c i false) (amount_recv m n i false) O rfl (W := W) hp₁ hp₂ (hr := Topo.routes_tc c n)
    (hsc := hsc) (hsrc := sendM_words i) (hdst := recvM_words i) (hsem := hsem) (k := fun _ => k) (Q := Q) (defs := defs₀ (F := F)) (Es := Set.univ)

theorem wp_sendStep (c : Dev nD) (i : Slot) (hu : used i = true) (v : FVec F S128x512 .f32) (hv : pack v = sent m c i)
    (l : List Slot) (k : PR F) (Q : PUnit → sProp 𝕄) :
    iprop(recs m K ∗ toSend c i ∗ owing c (owed c (i :: l)) ∗ ((toFree c i ∗ owing c (owed c l)) -∗ runs c k Q))
      ⊢ runs c (sendStep c i v k) Q := by
  unfold toSend sendAny recvAny owing sendStep
  iintro ⟨#HR, ⟨⟨%fs, Hs⟩, Ht, Ht', ⟨%fd, Hd⟩⟩, ⟨%W, Ho⟩, Hk⟩
  unfold sendPts
  iapply (wp_load 𝒱₀ (c : Thread nD τ) none Set.univ (m := sM) (load_send i)) $$ Hs; iintro Hs
  iapply (wp_store 𝒱₀ (c : Thread nD τ) none Set.univ (m := sM) (r := bufRect i) (Mk := Finset.univ) (store_send i)) $$ Hs; iintro Hs
  iapply (wp_transfer m K c (target c i.1) i rfl hu _ fd ((landed i (pack v) fs fd).trans hv) (owed c l) W k Q) $$ [Hs Ht Ht' Hd Ho]
  · isplitr; · iapply (recs_inv m K (c, kS i)); iexact HR
    isplitr; · iapply (recs_inv m K (target c i.1, kR i)); iexact HR
    isplitl [Hs]; · unfold sendPts; iexact Hs
    isplitl [Hd]; · iexact Hd
    isplitl [Ho]; · iexact Ho
    isplitl [Ht]; · iexact Ht
    isplitr; · iapply (recs_reached m K (c, kS i)); iexact HR
    isplitl [Ht']; · iexact Ht'
    iapply (recs_reached m K (target c i.1, kR i)); iexact HR
  iintro ⟨Hc, Ho⟩
  iapply Hk
  isplitl [Hc]; · iexact Hc
  iexists W; iexact Ho

theorem wp_waitRecv (c : Dev nD) (i : Slot) (hu : used i = true) (l : List Slot) (hl : ∀ j ∈ l, i.2.1.val < j.2.1.val)
    (k : PR F) (Q : PUnit → sProp 𝕄) :
    iprop(recs m K ∗ levAts L lv ∗ toGet c i ∗ owing c (owed c l) ∗ ((gotten m c i ∗ owing c (owed c l)) -∗ runs c k Q))
      ⊢ runs c (waitRecv i k) Q := by
  unfold toGet owing waitRecv gotten
  iintro ⟨#HR, #Hlev, ⟨Hc, Hat⟩, ⟨%W, Ho⟩, Hk⟩
  iapply (Rounds.wp_wait_rest_token 𝒱₀ ER (rd m) (c : Thread nD τ) none (κ := K (c, kR i))
      (wpE_waitDma2_eq 𝒱₀ (c : Thread nD τ) none Set.univ) (Set.mem_univ _) () (O := owed c l) (W := W) (R := 0) (m := 0) (T := ∅)
      (by rw [Nat.zero_add, expect_recv m c i hu])) $$ [Hc Ho Hat]
  · isplitr; · iapply (recs_inv m K (c, kR i)); iexact HR
    isplitl [Hc]; · iexact Hc
    isplitl [Ho]; · iexact Ho
    isplitr
    · iapply (mayWait_owed c (.dma (recvSem i)) l fun j hj => by
        rw [role_recv]; have := hl j hj; show 2 + i.2.1.val < _; omega)
      iexact Hlev
    iexact Hat
  iintro ⟨Ho, Hat, -, Hpay⟩
  ihave Hp := (Entails.of_eq (rest_recv m c i hu)) $$ Hpay
  imod (Rounds.cell_close ER (rd m) (Set.mem_univ (K (c, kR i))) (fun h => h) (R := 0 + 1) (duties_later m (recvCell c i))) $$ [Hat] with Hz
  · isplitr; · iapply (recs_inv m K (c, kR i)); iexact HR
    iexact Hat
  iapply Hk
  isplitl [Hp Hz]
  · isplitl [Hp] <;> iassumption
  iexists _; iexact Ho

theorem wp_readRecv (c : Dev nD) (i : Slot) (k : FVec F S1x1x1x128x512 .bf16 → PR F) (Q : PUnit → sProp 𝕄) :
    iprop(gotten m c i ∗ (gotten m c i -∗ runs c (k (got m c i)) Q)) ⊢ runs c (readRecv i k) Q := by
  unfold gotten recvGot readRecv
  iintro ⟨⟨⟨%f, %hf, Hp⟩, Hz⟩, Hk⟩
  unfold recvPts
  iapply (wp_load 𝒱₀ (c : Thread nD τ) none Set.univ (m := rM) (load_recv i)) $$ Hp; iintro Hp
  rw [hf]
  iapply Hk
  isplitl [Hp]
  · iexists f
    isplitr; · ipureintro; exact hf
    iexact Hp
  iexact Hz

/-- The place of a slot given back. -/
theorem wp_waitSend (c : Dev nD) (i : Slot) (hu : used i = true) (k : PR F) (Q : PUnit → sProp 𝕄) :
    iprop(recs m K ∗ toFree c i ∗ atPos ER (sendCell c i) 0 ∅ 0 ∗ owing c 0
        ∗ ((sendAny c i ∗ semVal (sendCell c i) 0 ∗ owing c 0) -∗ runs c k Q))
      ⊢ runs c (.op (.waitDma2 (sendSem i) (recvM i) (sendM i) (recvM_words i) (sendM_words i)) fun _ => k) Q := by
  unfold toFree owing
  iintro ⟨#HR, Hc, Hat, ⟨%W, Ho⟩, Hk⟩
  iapply (Rounds.wp_wait_rest_token 𝒱₀ ER (rd m) (c : Thread nD τ) none (κ := K (c, kS i))
      (wpE_waitDma2_eq 𝒱₀ (c : Thread nD τ) none Set.univ) (Set.mem_univ _) () (O := 0) (W := W) (R := 0) (m := 0) (T := ∅)
      (by rw [Nat.zero_add, expect_send m c i hu])) $$ [Hc Ho Hat]
  · isplitr; · iapply (recs_inv m K (c, kS i)); iexact HR
    isplitl [Hc]; · iexact Hc
    isplitl [Ho]; · iexact Ho
    isplitr; · rw [MayWait_zero]; iempintro
    iexact Hat
  iintro ⟨Ho, Hat, -, Hpay⟩
  ihave Hp := (Entails.of_eq (rest_send m c i hu)) $$ Hpay
  imod (Rounds.cell_close ER (rd m) (Set.mem_univ (K (c, kS i))) (fun h => h) (R := 0 + 1) (duties_later m (sendCell c i))) $$ [Hat] with Hz
  · isplitr; · iapply (recs_inv m K (c, kS i)); iexact HR
    iexact Hat
  iapply Hk
  isplitl [Hp]; · iexact Hp
  isplitl [Hz]; · iexact Hz
  iexists _; iexact Ho

end Cert.RingProof

end
-- ==== Proof.Run.lean ====
/- The kernel's eight steps and its end, list of transfers by list of transfers. -/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Resources over a list of slots -/

def sepL (P : Slot → sProp 𝕄) : List Slot → sProp 𝕄
  | [] => iprop(emp)
  | i :: l => iprop(P i ∗ sepL P l)

omit [FloatOps F] in
theorem sepL_eq (P : Slot → sProp 𝕄) (l : List Slot) (h : l.Nodup) : sepL P l = bigSep l.toFinset P := by
  induction l with
  | nil => rfl
  | cons i l ih =>
    rw [List.toFinset_cons, bigSep_insert (by simpa using (List.nodup_cons.mp h).1), ← ih (List.nodup_cons.mp h).2]
    rfl
omit [FloatOps F] in
theorem sepL_append (P : Slot → sProp 𝕄) (l l' : List Slot) : sepL P (l ++ l') = iprop(sepL P l ∗ sepL P l') := by
  induction l with
  | nil => exact (equiv_iff.mp emp_sep).symm
  | cons i l ih =>
    show iprop(P i ∗ sepL P (l ++ l')) = iprop((P i ∗ sepL P l) ∗ sepL P l')
    rw [ih]; exact (equiv_iff.mp ⟨(Laws.sep_assoc (PROP := sProp 𝕄) (P := P i) (Q := sepL P l) (R := sepL P l')).1,
      (Laws.sep_assoc (PROP := sProp 𝕄) (P := P i) (Q := sepL P l) (R := sepL P l')).2⟩).symm
omit [FloatOps F] in
theorem sepL_sep (P Q : Slot → sProp 𝕄) (l : List Slot) : iprop(sepL P l ∗ sepL Q l) ⊢ sepL (fun i => iprop(P i ∗ Q i)) l := by
  induction l with
  | nil => iintro -; unfold sepL; iempintro
  | cons i l ih =>
    unfold sepL
    iintro ⟨⟨Hp, HP⟩, Hq, HQ⟩
    isplitl [Hp Hq]
    · isplitl [Hp] <;> iassumption
    iapply ih
    isplitl [HP] <;> iassumption

/-! ## The steps -/

/-- The slot a transfer is built on. -/
def pred : Slot → List Slot
  | (_, ⟨0, _⟩, _) => []
  | (f, ⟨t + 1, h⟩, b) => [(f, ⟨t, Nat.lt_of_succ_lt h⟩, b)]
def preds : List Slot → List Slot
  | [] => []
  | i :: l => pred i ++ preds l

theorem used_of_lt : ∀ (f : Fin 4) (t : Fin 8) (b : Fin 2), t.val < 7 → used (f, t, b) = true := by decide +kernel

variable (m : (ℓ : Loc nD τ sig) → Buf (Elt F) ℓ) (K : Dev nD × CIx → ℕ)

theorem wp_slotStep (c : Dev nD) (i : Slot) (hu : used i = true) (l : List Slot) (hl : ∀ j ∈ l, i.2.1.val ≤ j.2.1.val)
    (k : PR F) (Q : PUnit → sProp 𝕄) :
    iprop(recs m K ∗ levAts L lv ∗ toSend c i ∗ sepL (toGet c) (pred i) ∗ owing c (owed c (i :: l))
        ∗ ((toFree c i ∗ sepL (gotten m c) (pred i) ∗ owing c (owed c l)) -∗ runs c k Q))
      ⊢ runs c (slotStep c i (sub i.2.2 (prod m c i.1 i.2.1)) k) Q := by
  obtain ⟨f, ⟨_ | t, ht⟩, b⟩ := i
  · show _ ⊢ runs c (sendStep c (f, ⟨0, ht⟩, b) (sub b (prod m c f ⟨0, ht⟩)) k) Q
    iintro ⟨#HR, #Hlev, Hs, -, Ho, Hk⟩
    iapply (wp_sendStep m K c (f, ⟨0, ht⟩, b) hu (sub b (prod m c f ⟨0, ht⟩)) rfl l k Q)
    isplitr; · iexact HR
    isplitl [Hs]; · iexact Hs
    isplitl [Ho]; · iexact Ho
    iintro ⟨Hf, Ho⟩
    iapply Hk
    isplitl [Hf]; · iexact Hf
    isplitr; · unfold pred sepL; iempintro
    iexact Ho
  · have ht' : t < 8 := Nat.lt_of_succ_lt ht
    show _ ⊢ runs c (waitRecv (f, ⟨t, ht'⟩, b) (readRecv (f, ⟨t, ht'⟩, b) fun u =>
      sendStep c (f, ⟨t + 1, ht⟩, b) (plus (sub b (prod m c f ⟨t + 1, ht⟩)) u) k)) Q
    show iprop(recs m K ∗ levAts L lv ∗ toSend c _ ∗ (toGet c (f, ⟨t, ht'⟩, b) ∗ emp) ∗ owing c (owed c ((f, ⟨t + 1, ht⟩, b) :: l))
        ∗ ((toFree c _ ∗ (gotten m c (f, ⟨t, ht'⟩, b) ∗ emp) ∗ owing c (owed c l)) -∗ runs c k Q)) ⊢ _
    iintro ⟨#HR, #Hlev, Hs, ⟨Hg, -⟩, Ho, Hk⟩
    iapply (wp_waitRecv m K c (f, ⟨t, ht'⟩, b) (used_of_lt f ⟨t, ht'⟩ b (by show t < 7; omega)) ((f, ⟨t + 1, ht⟩, b) :: l) (by
      intro j hj
      rcases List.mem_cons.mp hj with rfl | hj
      · exact Nat.lt_succ_self t
      · exact Nat.lt_of_lt_of_le (Nat.lt_succ_self t) (hl j hj)))
    isplitr; · iexact HR
    isplitr; · iexact Hlev
    isplitl [Hg]; · iexact Hg
    isplitl [Ho]; · iexact Ho
    iintro ⟨Hg, Ho⟩
    iapply (wp_readRecv m c (f, ⟨t, ht'⟩, b))
    isplitl [Hg]; · iexact Hg
    iintro Hg
    iapply (wp_sendStep m K c (f, ⟨t + 1, ht⟩, b) hu (plus (sub b (prod m c f ⟨t + 1, ht⟩)) (got m c (f, ⟨t, ht'⟩, b))) rfl l k Q)
    isplitr; · iexact HR
    isplitl [Hs]; · iexact Hs
    isplitl [Ho]; · iexact Ho
    iintro ⟨Hf, Ho⟩
    iapply Hk
    isplitl [Hf]; · iexact Hf
    isplitl [Hg]
    · isplitl [Hg]; · iexact Hg
      iempintro
    iexact Ho

theorem wp_slotSteps (c : Dev nD) (p : Fin 4 → FVec F S128x1024 .f32) (k : PR F) (Q : PUnit → sProp 𝕄) (rest : List Slot) :
    ∀ l : List Slot, (∀ i ∈ l, used i = true ∧ p i.1 = prod m c i.1 i.2.1 ∧ ∀ j ∈ l ++ rest, i.2.1.val ≤ j.2.1.val) →
    iprop(recs m K ∗ levAts L lv ∗ sepL (toSend c) l ∗ sepL (toGet c) (preds l) ∗ owing c (owed c (l ++ rest))
        ∗ ((sepL (toFree c) l ∗ sepL (gotten m c) (preds l) ∗ owing c (owed c rest)) -∗ runs c k Q))
      ⊢ runs c (slotSteps c p l k) Q
  | [], _ => by
    unfold slotSteps
    iintro ⟨-, -, Hs, Hg, Ho, Hk⟩
    iapply Hk
    isplitl [Hs]; · iexact Hs
    isplitl [Hg]; · iexact Hg
    iexact Ho
  | i :: l, h => by
    have hi := h i List.mem_cons_self
    unfold slotSteps preds
    rw [hi.2.1, sepL_append, sepL_append]
    show iprop(recs m K ∗ levAts L lv ∗ (toSend c i ∗ sepL (toSend c) l) ∗ (sepL (toGet c) (pred i) ∗ sepL (toGet c) (preds l))
        ∗ owing c (owed c (i :: (l ++ rest)))
        ∗ (((toFree c i ∗ sepL (toFree c) l) ∗ (sepL (gotten m c) (pred i) ∗ sepL (gotten m c) (preds l)) ∗ owing c (owed c rest)) -∗ runs c k Q)) ⊢ _
    iintro ⟨#HR, #Hlev, ⟨Hs, Hs'⟩, ⟨Hg, Hg'⟩, Ho, Hk⟩
    iapply (wp_slotStep m K c i hi.1 (l ++ rest) (fun j hj => hi.2.2 j (List.mem_cons_of_mem _ hj)))
    isplitr; · iexact HR
    isplitr; · iexact Hlev
    isplitl [Hs]; · iexact Hs
    isplitl [Hg]; · iexact Hg
    isplitl [Ho]; · iexact Ho
    iintro ⟨Hf, Hg, Ho⟩
    iapply (wp_slotSteps c p k Q rest l (fun j hj => ⟨(h j (List.mem_cons_of_mem _ hj)).1, (h j (List.mem_cons_of_mem _ hj)).2.1,
      fun j' hj' => (h j (List.mem_cons_of_mem _ hj)).2.2 j' (List.mem_cons_of_mem _ hj')⟩))
    isplitr; · iexact HR
    isplitr; · iexact Hlev
    isplitl [Hs']; · iexact Hs'
    isplitl [Hg']; · iexact Hg'
    isplitl [Ho]; · iexact Ho
    iintro ⟨Hf', Hg', Ho⟩
    iapply Hk
    isplitl [Hf Hf']
    · isplitl [Hf] <;> iassumption
    isplitl [Hg Hg']
    · isplitl [Hg] <;> iassumption
    iexact Ho

/-- The staged block of `x`, and the result's staging buffer at contents `g`. -/
def xPts (c : Dev nD) : sProp 𝕄 := iprop(((c : Thread nD τ).loc cc0_stg0_0) ↦{fullShare} xstg m c)
def oPts (c : Dev nD) (g : cc0_stg2_0.ty.Contents (Elt F)) : sProp 𝕄 := iprop(((c : Thread nD τ).loc cc0_stg2_0) ↦{fullShare} g)

theorem wp_loadX (c : Dev nD) (f : Fin 4) (t : Fin 8) (k : FVec F S128x1024 .f32 → PR F) (Q : PUnit → sProp 𝕄) :
    iprop(xPts m c ∗ (xPts m c -∗ runs c (k (prod m c f t)) Q)) ⊢ runs c (loadX c (wts m c) f t k) Q := by
  unfold xPts loadX
  iintro ⟨Hx, Hk⟩
  iapply (wp_load 𝒱₀ (c : Thread nD τ) none Set.univ (m := xM) (Finset.subset_univ _)) $$ Hx; iintro Hx
  iapply Hk; iexact Hx
theorem wp_loadOwn (c : Dev nD) (f : Fin 4) (k : FVec F S128x1024 .f32 → PR F) (Q : PUnit → sProp 𝕄) :
    iprop(xPts m c ∗ (xPts m c -∗ runs c (k (own m c f)) Q)) ⊢ runs c (loadOwn c (wts m c) f k) Q := by
  unfold xPts loadOwn
  iintro ⟨Hx, Hk⟩
  iapply (wp_load 𝒱₀ (c : Thread nD τ) none Set.univ (m := xM) (Finset.subset_univ _)) $$ Hx; iintro Hx
  iapply Hk; iexact Hx

theorem mem_slots4 {t : Fin 8} {i : Slot} (h : i ∈ slots4 t) : i.2.1 = t := by
  simp only [slots4, List.mem_cons, List.not_mem_nil, or_false] at h
  rcases h with rfl | rfl | rfl | rfl | rfl | rfl | rfl | rfl <;> rfl
theorem mem_slots2 {i : Slot} (h : i ∈ slots2) : i.2.1 = 7 := by
  simp only [slots2, List.mem_cons, List.not_mem_nil, or_false] at h
  rcases h with rfl | rfl | rfl | rfl <;> rfl

theorem wp_step4 (c : Dev nD) (t : Fin 8) (ht : t.val < 7) (rest : List Slot) (hr : ∀ j ∈ rest, t.val ≤ j.2.1.val) (k : PR F) (Q : PUnit → sProp 𝕄) :
    iprop(recs m K ∗ levAts L lv ∗ xPts m c ∗ sepL (toSend c) (slots4 t) ∗ sepL (toGet c) (preds (slots4 t)) ∗ owing c (owed c (slots4 t ++ rest))
        ∗ ((xPts m c ∗ sepL (toFree c) (slots4 t) ∗ sepL (gotten m c) (preds (slots4 t)) ∗ owing c (owed c rest)) -∗ runs c k Q))
      ⊢ runs c (step4 c (wts m c) t k) Q := by
  unfold step4
  iintro ⟨#HR, #Hlev, Hx, Hs, Hg, Ho, Hk⟩
  iapply (wp_loadX m c 0 t)
  isplitl [Hx]; · iexact Hx
  iintro Hx
  iapply (wp_loadX m c 1 t)
  isplitl [Hx]; · iexact Hx
  iintro Hx
  iapply (wp_loadX m c 2 t)
  isplitl [Hx]; · iexact Hx
  iintro Hx
  iapply (wp_loadX m c 3 t)
  isplitl [Hx]; · iexact Hx
  iintro Hx
  iapply (wp_slotSteps m K c ![prod m c 0 t, prod m c 1 t, prod m c 2 t, prod m c 3 t] k Q rest (slots4 t) (fun i hi => by
    obtain ⟨f, t', b⟩ := i
    have e : t' = t := mem_slots4 hi
    subst e
    refine ⟨used_of_lt f t' b ht, ?_, fun j hj => ?_⟩
    · fin_cases f <;> rfl
    · rcases List.mem_append.mp hj with hj | hj
      · exact le_of_eq (congrArg Fin.val (mem_slots4 hj).symm)
      · exact hr j hj))
  isplitr; · iexact HR
  isplitr; · iexact Hlev
  isplitl [Hs]; · iexact Hs
  isplitl [Hg]; · iexact Hg
  isplitl [Ho]; · iexact Ho
  iintro ⟨Hf, Hg, Ho⟩
  iapply Hk
  isplitl [Hx]; · iexact Hx
  isplitl [Hf]; · iexact Hf
  isplitl [Hg]; · iexact Hg
  iexact Ho

theorem wp_step2 (c : Dev nD) (k : PR F) (Q : PUnit → sProp 𝕄) :
    iprop(recs m K ∗ levAts L lv ∗ xPts m c ∗ sepL (toSend c) slots2 ∗ sepL (toGet c) (preds slots2) ∗ owing c (owed c slots2)
        ∗ ((xPts m c ∗ sepL (toFree c) slots2 ∗ sepL (gotten m c) (preds slots2) ∗ owing c 0) -∗ runs c k Q))
      ⊢ runs c (step2 c (wts m c) k) Q := by
  unfold step2
  iintro ⟨#HR, #Hlev, Hx, Hs, Hg, Ho, Hk⟩
  iapply (wp_loadX m c 0 7)
  isplitl [Hx]; · iexact Hx
  iintro Hx
  iapply (wp_loadX m c 2 7)
  isplitl [Hx]; · iexact Hx
  iintro Hx
  iapply (wp_slotSteps m K c ![prod m c 0 7, prod m c 0 7, prod m c 2 7, prod m c 2 7] k Q [] slots2 (fun i hi => by
    refine ⟨?_, ?_, fun j hj => ?_⟩
    · simp only [slots2, List.mem_cons, List.not_mem_nil, or_false] at hi
      rcases hi with rfl | rfl | rfl | rfl <;> rfl
    · simp only [slots2, List.mem_cons, List.not_mem_nil, or_false] at hi
      rcases hi with rfl | rfl | rfl | rfl <;> rfl
    · rw [List.append_nil] at hj
      exact le_of_eq (congrArg Fin.val ((mem_slots2 hi).trans (mem_slots2 hj).symm))))
  isplitr; · iexact HR
  isplitr; · iexact Hlev
  isplitl [Hs]; · iexact Hs
  isplitl [Hg]; · iexact Hg
  isplitl [Ho]; · iexact Ho
  iintro ⟨Hf, Hg, Ho⟩
  iapply Hk
  isplitl [Hx]; · iexact Hx
  isplitl [Hf]; · iexact Hf
  isplitl [Hg]; · iexact Hg
  iexact Ho

/-! ## The end -/

theorem wp_finStep (c : Dev nD) (h b : Fin 2) (i j : Slot) (hi : used i = true) (hj : used j = true) (p : FVec F S128x1024 .f32)
    (g : cc0_stg2_0.ty.Contents (Elt F)) (k : PR F) (Q : PUnit → sProp 𝕄) :
    iprop(recs m K ∗ levAts L lv ∗ toGet c i ∗ toGet c j ∗ oPts c g ∗ owing c 0
        ∗ ((gotten m c i ∗ gotten m c j
            ∗ oPts c ((oM.access (outRect h b)).write (Elt F) g (act (plus (plus (sub b p) (got m c i)) (got m c j))) Finset.univ) ∗ owing c 0)
          -∗ runs c k Q))
      ⊢ runs c (finStep h b i j p k) Q := by
  unfold finStep oPts
  iintro ⟨#HR, #Hlev, Hi, Hj, Hp, Ho, Hk⟩
  iapply (wp_waitRecv m K c i hi [] (fun _ h => absurd h List.not_mem_nil))
  isplitr; · iexact HR
  isplitr; · iexact Hlev
  isplitl [Hi]; · iexact Hi
  isplitl [Ho]; · iexact Ho
  iintro ⟨Hi, Ho⟩
  iapply (wp_waitRecv m K c j hj [] (fun _ h => absurd h List.not_mem_nil))
  isplitr; · iexact HR
  isplitr; · iexact Hlev
  isplitl [Hj]; · iexact Hj
  isplitl [Ho]; · iexact Ho
  iintro ⟨Hj, Ho⟩
  iapply (wp_readRecv m c i)
  isplitl [Hi]; · iexact Hi
  iintro Hi
  iapply (wp_readRecv m c j)
  isplitl [Hj]; · iexact Hj
  iintro Hj
  iapply (wp_load 𝒱₀ (c : Thread nD τ) none Set.univ (m := oM) (Finset.subset_univ _)) $$ Hp; iintro Hp
  iapply (wp_store 𝒱₀ (c : Thread nD τ) none Set.univ (m := oM) (r := outRect h b) (Mk := Finset.univ) (Finset.subset_univ _)) $$ Hp; iintro Hp
  iapply Hk
  isplitl [Hi]; · iexact Hi
  isplitl [Hj]; · iexact Hj
  isplitl [Hp]; · iexact Hp
  iexact Ho

/-- To wait for a send place, and the place given back. -/
def toWait (c : Dev nD) (i : Slot) : sProp 𝕄 := iprop(toFree c i ∗ atPos ER (sendCell c i) 0 ∅ 0)
def freed (c : Dev nD) (i : Slot) : sProp 𝕄 := iprop(sendAny c i ∗ semVal (sendCell c i) 0)

theorem wp_waitSends (c : Dev nD) (Q : PUnit → sProp 𝕄) : ∀ l : List Slot, (∀ i ∈ l, used i = true) →
    iprop(recs m K ∗ sepL (toWait c) l ∗ owing c 0 ∗ ((sepL (freed c) l ∗ owing c 0) -∗ Q ⟨⟩)) ⊢ runs c (waitSends l) Q
  | [], _ => by
    unfold waitSends runs
    rw [wp_ret]
    iintro ⟨-, Hw, Ho, Hk⟩
    imodintro
    iapply Hk
    isplitl [Hw]; · iexact Hw
    iexact Ho
  | i :: l, h => by
    unfold waitSends
    show iprop(recs m K ∗ ((toFree c i ∗ atPos ER (sendCell c i) 0 ∅ 0) ∗ sepL (toWait c) l) ∗ owing c 0
      ∗ (((sendAny c i ∗ semVal (sendCell c i) 0) ∗ sepL (freed c) l) ∗ owing c 0 -∗ Q ⟨⟩)) ⊢ _
    iintro ⟨#HR, ⟨⟨Hf, Hat⟩, Hw⟩, Ho, Hk⟩
    iapply (wp_waitSend m K c i (h i List.mem_cons_self))
    isplitr; · iexact HR
    isplitl [Hf]; · iexact Hf
    isplitl [Hat]; · iexact Hat
    isplitl [Ho]; · iexact Ho
    iintro ⟨Hs, Hz, Ho⟩
    iapply (wp_waitSends c Q l (fun j hj => h j (List.mem_cons_of_mem _ hj)))
    isplitr; · iexact HR
    isplitl [Hw]; · iexact Hw
    isplitl [Ho]; · iexact Ho
    iintro ⟨Hl, Ho⟩
    iapply Hk
    isplitl [Hs Hz Hl]
    · isplitl [Hs Hz]
      · isplitl [Hs] <;> iassumption
      iexact Hl
    iexact Ho

end Cert.RingProof

end
-- ==== Proof.Out.lean ====
/- The device's result: four column blocks, each the own product and what the last transfers of two families
   brought, through the closing function. -/
module

public import proofs.«01_k».proof.Proof.Run

@[expose] public section

noncomputable section

namespace Cert.RingProof

open Cert.KernelIdeal Cert.KernelIdeal.Gen
open Idealize.ShloMosaic Idealize.ShloMosaic.TcCoe

variable {F : FTy → Type} [FloatOps F]
variable (m : (ℓ : Loc nD τ sig) → Buf (Elt F) ℓ)

/-- The families whose transfers end in half `h`: the one that takes eight steps, the one that takes seven. -/
def long (h : Fin 2) : Fin 4 := match h with | 0 => 0 | 1 => 2
def short (h : Fin 2) : Fin 4 := match h with | 0 => 1 | 1 => 3

/-- One block of the result. -/
def outBlk (c : Dev nD) (h b : Fin 2) : FVec F S128x512 .f32 :=
  act (plus (plus (sub b (own m c (long h))) (got m c (long h, 7, b))) (got m c (short h, 6, b)))

def inBlk (y : S128x2048.Idx) : S128x512.Idx :=
  fun a => match a with
    | ⟨0, _⟩ => ⟨(y 0).val, (y 0).isLt⟩
    | ⟨1, _⟩ => ⟨(y 1).val % 512, Nat.mod_lt _ (by decide)⟩
def halfOf (y : S128x2048.Idx) : Fin 2 := Fin.ofNat 2 ((y 1).val / 1024)
def blkOf (y : S128x2048.Idx) : Fin 2 := Fin.ofNat 2 ((y 1).val / 512)

/-- The result. -/
def outAt (c : Dev nD) : cc0_stg2_0.ty.Contents (Elt F) :=
  fun y => outBlk m c (halfOf y) (blkOf y) (inBlk y)

theorem emb_inBlk (y : S128x2048.Idx) (h b : Fin 2) (hh : halfOf y = h) (hb : blkOf y = b) :
    (oM.access (outRect h b)).emb (inBlk y) = y := by
  have h1 : (y 1).val < 2048 := (y 1).isLt
  have eh : (y 1).val / 1024 % 2 = h.val := congrArg Fin.val hh
  have eb : (y 1).val / 512 % 2 = b.val := congrArg Fin.val hb
  funext a
  apply Fin.ext
  fin_cases a
  · show 0 + 1 * (y 0).val = (y 0).val
    omega
  · show 1024 * h.val + 512 * b.val + 1 * ((y 1).val % 512) = (y 1).val
    omega

theorem write_at {κ : Kind} (b : Ref sig κ) (r : Rect b.ty.shape) (f : b.ty.Contents (Elt F)) (w : r.shape.Idx → Elt F b.ty.elt)
    (x : r.shape.Idx) (y : b.ty.shape.Idx) (e : r.emb x = y) :
    ((Memref.whole b).access r).write (Elt F) f w Finset.univ y = w x := by
  subst e
  exact View.write_emb_of_mem (v := ((Memref.whole b).access r)) f w (Finset.mem_univ x)

theorem write_here (f : cc0_stg2_0.ty.Contents (Elt F)) (w : FVec F S128x512 .f32) (y : S128x2048.Idx) (h b : Fin 2)
    (hh : halfOf y = h) (hb : blkOf y = b) :
    (oM.access (outRect h b)).write (Elt F) f w Finset.univ y = w (inBlk y) :=
  write_at cc0_stg2_0 (outRect h b) f w (inBlk y) y (emb_inBlk y h b hh hb)

theorem write_there (f : cc0_stg2_0.ty.Contents (Elt F)) (w : FVec F S128x512 .f32) (y : S128x2048.Idx) (h b : Fin 2)
    (hn : ¬ (halfOf y = h ∧ blkOf y = b)) :
    (oM.access (outRect h b)).write (Elt F) f w Finset.univ y = f y := by
  refine View.write_of_not_mem (v := oM.access (outRect h b)) f w Finset.univ fun hy => hn ?_
  have hy' : y ∈ (outRect h b).set := by
    have := View.set_slice_whole cc0_stg2_0 (outRect h b)
    exact this ▸ hy
  have h1 := Rect.mem_set_unit.mp hy' 1
  have h2 : 1024 * h.val + 512 * b.val ≤ (y 1).val ∧ (y 1).val < 1024 * h.val + 512 * b.val + 512 := h1
  constructor <;> apply Fin.ext
  · show (y 1).val / 1024 % 2 = h.val
    omega
  · show (y 1).val / 512 % 2 = b.val
    omega

/-- The four stores leave the result, whatever was there. -/
theorem stores (c : Dev nD) (g : cc0_stg2_0.ty.Contents (Elt F)) :
    (oM.access (outRect 1 1)).write (Elt F) ((oM.access (outRect 0 1)).write (Elt F) ((oM.access (outRect 1 0)).write (Elt F)
      ((oM.access (outRect 0 0)).write (Elt F) g (outBlk m c 0 0) Finset.univ) (outBlk m c 1 0) Finset.univ)
        (outBlk m c 0 1) Finset.univ) (outBlk m c 1 1) Finset.univ = outAt m c := by
  funext y
  unfold outAt
  generalize hh : halfOf y = h
  generalize hb : blkOf y = b
  by_cases e11 : h = 1 ∧ b = 1
  · obtain ⟨rfl, rfl⟩ := e11; rw [write_here _ _ y 1 1 hh hb]
  rw [write_there _ _ y 1 1 (by rw [hh, hb]; exact e11)]
  by_cases e01 : h = 0 ∧ b = 1
  · obtain ⟨rfl, rfl⟩ := e01; rw [write_here _ _ y 0 1 hh hb]
  rw [write_there _ _ y 0 1 (by rw [hh, hb]; exact e01)]
  by_cases e10 : h = 1 ∧ b = 0
  · obtain ⟨rfl, rfl⟩ := e10; rw [write_here _ _ y 1 0 hh hb]
  rw [write_there _ _ y 1 0 (by rw [hh, hb]; exact e10)]
  have e00 : h = 0 ∧ b = 0 := by omega
  obtain ⟨rfl, rfl⟩ := e00; rw [write_here _ _ y 0 0 hh hb]

end Cert.RingProof

end
-- ==== Proof.Chain.lean ====
/- All steps of the kernel in one: from what a device holds after the barrier to its result. -/
module

public import proofs.«01_k».proof.Proof.Out

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-! ## The steps in which all families take part -/

def chain (d0 : Dev nD) (w : FVec F S128x2048 .bf16) : List (Fin 8) → PR F → PR F
  | [], k => k
  | t :: ts, k => step4 d0 w t (chain d0 w ts k)

/-- The transfers of a list of steps, and those they are built on. -/
def sends : List (Fin 8) → List Slot
  | [] => []
  | t :: ts => slots4 t ++ sends ts
def gets : List (Fin 8) → List Slot
  | [] => []
  | t :: ts => preds (slots4 t) ++ gets ts

theorem mem_sends {ts : List (Fin 8)} {j : Slot} (h : j ∈ sends ts) : j.2.1 ∈ ts := by
  induction ts with
  | nil => exact absurd h List.not_mem_nil
  | cons t ts ih =>
    rcases List.mem_append.mp h with h | h
    · rw [mem_slots4 h]; exact List.mem_cons_self
    · exact List.mem_cons_of_mem _ (ih h)

theorem wp_chain (c : Dev nD) (rest : List Slot) (hr : ∀ j ∈ rest, j.2.1 = 7) (k : PR F) (Q : PUnit → sProp 𝕄) :
    ∀ ts : List (Fin 8), (∀ t ∈ ts, t.val < 7) → ts.Pairwise (fun a b => a.val ≤ b.val) →
    iprop(recs m K ∗ levAts L lv ∗ xPts m c ∗ sepL (toSend c) (sends ts) ∗ sepL (toGet c) (gets ts) ∗ owing c (owed c (sends ts ++ rest))
        ∗ ((xPts m c ∗ sepL (toFree c) (sends ts) ∗ sepL (gotten m c) (gets ts) ∗ owing c (owed c rest)) -∗ runs c k Q))
      ⊢ runs c (chain c (wts m c) ts k) Q
  | [], _, _ => by
    unfold chain
    iintro ⟨-, -, Hx, Hs, Hg, Ho, Hk⟩
    iapply Hk
    isplitl [Hx]; · iexact Hx
    isplitl [Hs]; · iexact Hs
    isplitl [Hg]; · iexact Hg
    iexact Ho
  | t :: ts, h7, hs => by
    have hs' := List.pairwise_cons.mp hs
    unfold chain sends gets
    rw [sepL_append, sepL_append, sepL_append, sepL_append, List.append_assoc]
    iintro ⟨#HR, #Hlev, Hx, ⟨Hs, Hs'⟩, ⟨Hg, Hg'⟩, Ho, Hk⟩
    iapply (wp_step4 m K c t (h7 t List.mem_cons_self) (sends ts ++ rest) (fun j hj => by
      rcases List.mem_append.mp hj with hj | hj
      · exact hs'.1 _ (mem_sends hj)
      · rw [hr j hj]; exact Nat.le_of_lt (h7 t List.mem_cons_self)))
    isplitr; · iexact HR
    isplitr; · iexact Hlev
    isplitl [Hx]; · iexact Hx
    isplitl [Hs]; · iexact Hs
    isplitl [Hg]; · iexact Hg
    isplitl [Ho]; · iexact Ho
    iintro ⟨Hx, Hf, Hg, Ho⟩
    iapply (wp_chain c rest hr k Q ts (fun t ht => h7 t (List.mem_cons_of_mem _ ht)) hs'.2)
    isplitr; · iexact HR
    isplitr; · iexact Hlev
    isplitl [Hx]; · iexact Hx
    isplitl [Hs']; · iexact Hs'
    isplitl [Hg']; · iexact Hg'
    isplitl [Ho]; · iexact Ho
    iintro ⟨Hx, Hf', Hg', Ho⟩
    iapply Hk
    isplitl [Hx]; · iexact Hx
    isplitl [Hf Hf']
    · isplitl [Hf] <;> iassumption
    isplitl [Hg Hg']
    · isplitl [Hg] <;> iassumption
    iexact Ho

/-! ## The result -/

/-- The transfers the result takes. -/
abbrev lastGets : List Slot :=
  [(0, 7, 0), (1, 6, 0), (2, 7, 0), (3, 6, 0), (0, 7, 1), (1, 6, 1), (2, 7, 1), (3, 6, 1)]

theorem wp_finish (c : Dev nD) (g : cc0_stg2_0.ty.Contents (Elt F)) (k : PR F) (Q : PUnit → sProp 𝕄) :
    iprop(recs m K ∗ levAts L lv ∗ xPts m c ∗ sepL (toGet c) lastGets ∗ oPts c g ∗ owing c 0
        ∗ ((xPts m c ∗ sepL (gotten m c) lastGets ∗ oPts c (outAt m c) ∗ owing c 0) -∗ runs c k Q))
      ⊢ runs c (finish c (wts m c) k) Q := by
  rw [← stores m c g]
  unfold finish
  simp only [sepL]
  iintro ⟨#HR, #Hlev, Hx, ⟨H1, H2, H3, H4, H5, H6, H7, H8, -⟩, Hp, Ho, Hk⟩
  iapply (wp_loadOwn m c 0)
  isplitl [Hx]; · iexact Hx
  iintro Hx
  iapply (wp_loadOwn m c 2)
  isplitl [Hx]; · iexact Hx
  iintro Hx
  iapply (wp_finStep m K c 0 0 (0, 7, 0) (1, 6, 0) rfl rfl)
  isplitr; · iexact HR
  isplitr; · iexact Hlev
  isplitl [H1]; · iexact H1
  isplitl [H2]; · iexact H2
  isplitl [Hp]; · iexact Hp
  isplitl [Ho]; · iexact Ho
  iintro ⟨H1, H2, Hp, Ho⟩
  iapply (wp_finStep m K c 1 0 (2, 7, 0) (3, 6, 0) rfl rfl)
  isplitr; · iexact HR
  isplitr; · iexact Hlev
  isplitl [H3]; · iexact H3
  isplitl [H4]; · iexact H4
  isplitl [Hp]; · iexact Hp
  isplitl [Ho]; · iexact Ho
  iintro ⟨H3, H4, Hp, Ho⟩
  iapply (wp_finStep m K c 0 1 (0, 7, 1) (1, 6, 1) rfl rfl)
  isplitr; · iexact HR
  isplitr; · iexact Hlev
  isplitl [H5]; · iexact H5
  isplitl [H6]; · iexact H6
  isplitl [Hp]; · iexact Hp
  isplitl [Ho]; · iexact Ho
  iintro ⟨H5, H6, Hp, Ho⟩
  iapply (wp_finStep m K c 1 1 (2, 7, 1) (3, 6, 1) rfl rfl)
  isplitr; · iexact HR
  isplitr; · iexact Hlev
  isplitl [H7]; · iexact H7
  isplitl [H8]; · iexact H8
  isplitl [Hp]; · iexact Hp
  isplitl [Ho]; · iexact Ho
  iintro ⟨H7, H8, Hp, Ho⟩
  iapply Hk
  isplitl [Hx]; · iexact Hx
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  isplitl [Hp]; · iexact Hp
  iexact Ho

/-! ## All of it -/

abbrev times : List (Fin 8) := [0, 1, 2, 3, 4, 5, 6]
/-- The transfers in the order they are waited for at the receiving end. -/
def getOrder : List Slot := gets times ++ (preds slots2 ++ lastGets)

theorem order_eq : order = sends times ++ slots2 := rfl
theorem order_nodup : order.Nodup := by decide +kernel
theorem order_slots : order.toFinset = usedSlots := by decide +kernel
theorem getOrder_nodup : getOrder.Nodup := by decide +kernel
theorem getOrder_slots : getOrder.toFinset = usedSlots := by decide +kernel
theorem sendOrder_nodup : sendOrder.Nodup := by decide +kernel
theorem sendOrder_slots : sendOrder.toFinset = usedSlots := by decide +kernel
theorem sendOrder_used : ∀ i ∈ sendOrder, used i = true := by decide +kernel

omit [FloatOps F] in
theorem over_order (P : Slot → sProp 𝕄) : sepL P order = bigSep usedSlots P := by rw [sepL_eq P _ order_nodup, order_slots]
omit [FloatOps F] in
theorem over_getOrder (P : Slot → sProp 𝕄) : sepL P getOrder = bigSep usedSlots P := by rw [sepL_eq P _ getOrder_nodup, getOrder_slots]
omit [FloatOps F] in
theorem over_sendOrder (P : Slot → sProp 𝕄) : sepL P sendOrder = bigSep usedSlots P := by rw [sepL_eq P _ sendOrder_nodup, sendOrder_slots]

theorem steps_eq (c : Dev nD) (w : FVec F S128x2048 .bf16) :
    steps c w = chain c w times (step2 c w (finish c w (waitSends sendOrder))) := rfl

theorem wp_steps (c : Dev nD) (g : cc0_stg2_0.ty.Contents (Elt F)) (Q : PUnit → sProp 𝕄) :
    iprop(recs m K ∗ levAts L lv ∗ xPts m c ∗ oPts c g ∗ bigSep usedSlots (toSend c) ∗ bigSep usedSlots (toGet c)
        ∗ (bigSep usedSlots fun i => atPos ER (sendCell c i) 0 ∅ 0) ∗ owing c (owed c order)
        ∗ ((xPts m c ∗ oPts c (outAt m c) ∗ bigSep usedSlots (gotten m c) ∗ bigSep usedSlots (freed c) ∗ owing c 0) -∗ Q ⟨⟩))
      ⊢ runs c (steps c (wts m c)) Q := by
  rw [steps_eq, ← over_order (toSend c), ← over_getOrder (toGet c), ← over_getOrder (gotten m c), ← over_sendOrder (freed c), order_eq,
    ← over_sendOrder (fun i => atPos ER (sendCell c i) 0 ∅ 0), getOrder,
    sepL_append (toSend c), sepL_append (toGet c), sepL_append (toGet c), sepL_append (gotten m c), sepL_append (gotten m c)]
  iintro ⟨#HR, #Hlev, Hx, Hp, ⟨Hs, Hs'⟩, ⟨Hg, Hg', Hg''⟩, Hat, Ho, Hk⟩
  iapply (wp_chain m K c slots2 (fun j hj => mem_slots2 hj) _ Q times (by decide) (by decide))
  isplitr; · iexact HR
  isplitr; · iexact Hlev
  isplitl [Hx]; · iexact Hx
  isplitl [Hs]; · iexact Hs
  isplitl [Hg]; · iexact Hg
  isplitl [Ho]; · iexact Ho
  iintro ⟨Hx, Hf, Hg, Ho⟩
  iapply (wp_step2 m K c)
  isplitr; · iexact HR
  isplitr; · iexact Hlev
  isplitl [Hx]; · iexact Hx
  isplitl [Hs']; · iexact Hs'
  isplitl [Hg']; · iexact Hg'
  isplitl [Ho]; · iexact Ho
  iintro ⟨Hx, Hf', Hg', Ho⟩
  iapply (wp_finish m K c g)
  isplitr; · iexact HR
  isplitr; · iexact Hlev
  isplitl [Hx]; · iexact Hx
  isplitl [Hg'']; · iexact Hg''
  isplitl [Hp]; · iexact Hp
  isplitl [Ho]; · iexact Ho
  iintro ⟨Hx, Hg'', Hp, Ho⟩
  iapply (wp_waitSends m K c Q sendOrder sendOrder_used)
  isplitr; · iexact HR
  isplitl [Hf Hf' Hat]
  · ihave Hfree := (Entails.of_eq ((sepL_append (toFree c) (sends times) slots2).symm.trans
      ((over_order (toFree c)).trans (over_sendOrder (toFree c)).symm))) $$ [Hf Hf']
    · isplitl [Hf] <;> iassumption
    iapply (sepL_sep (toFree c) (fun i => atPos ER (sendCell c i) 0 ∅ 0) sendOrder)
    isplitl [Hfree]; · iexact Hfree
    iexact Hat
  isplitl [Ho]; · iexact Ho
  iintro ⟨Hw, Ho⟩
  iapply Hk
  isplitl [Hx]; · iexact Hx
  isplitl [Hp]; · iexact Hp
  isplitl [Hg Hg' Hg'']
  · isplitl [Hg]; · iexact Hg
    isplitl [Hg'] <;> iassumption
  isplitl [Hw]; · iexact Hw
  iexact Ho

end Cert.RingProof

end
-- ==== Proof.Body.lean ====
/- The kernel on one device: what it starts from, what it leaves, and that it runs from one to the other. -/
module

public import proofs.«01_k».proof.Proof.Chain
public import proofs.«01_k».proof.Proof.Gen.KernelIdeal.Launch
public import proofs.«01_k».proof.Proof.Gen.KernelIdeal.Points

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-! ## The slots by use and by direction -/

abbrev unusedSlots : Finset Slot := Finset.univ.filter fun i => ¬ used i = true

omit [FloatOps F] in
theorem split_used (P : Slot → sProp 𝕄) : bigSep Finset.univ P = iprop(bigSep usedSlots P ∗ bigSep unusedSlots P) :=
  bigSep_filter_split Finset.univ fun i => used i = true
theorem dir_disjoint : Disjoint (dirSlots false) (dirSlots true) := by decide +kernel
theorem dir_union : dirSlots false ∪ dirSlots true = usedSlots := by decide +kernel
omit [FloatOps F] in
theorem split_dir (P : Slot → sProp 𝕄) : bigSep usedSlots P = iprop(bigSep (dirSlots false) P ∗ bigSep (dirSlots true) P) := by
  rw [← dir_union]; exact bigSep_union dir_disjoint

omit [FloatOps F] in
theorem over_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's own receive places, as what it gives its next and its previous device. -/
theorem pay_rgt (c : Dev nD) : (bigSep (dirSlots false) fun i => recvAny (F := F) c i) = (rd m).payload (barCell (rgt c)) 0 false := by
  rw [payload_bar]; unfold barPay
  refine bigSep_congr fun i hi => ?_
  have h : right i.1 = false := (Finset.mem_filter.mp hi).2.2
  rw [target_eq, h]
  exact congrArg (fun d => recvAny d i) (lft_rgt c).symm
theorem pay_lft (c : Dev nD) : (bigSep (dirSlots true) fun i => recvAny (F := F) c i) = (rd m).payload (barCell (lft c)) 0 true := by
  rw [payload_bar]; unfold barPay
  refine bigSep_congr fun i hi => ?_
  have h : right i.1 = true := (Finset.mem_filter.mp hi).2.2
  rw [target_eq, h]
  exact congrArg (fun d => recvAny d i) (rgt_lft c).symm

omit [FloatOps F] in
theorem barPay_both (c : Dev nD) : iprop(barPay (F := F) c false ∗ barPay c true) = bigSep usedSlots fun i => recvAny (target c i.1) i :=
  (split_dir _).symm

omit [FloatOps F] in
theorem toSend_intro (c : Dev nD) :
    iprop((bigSep usedSlots fun i => sendAny c i) ∗ (bigSep usedSlots fun i => dutyTok ER (sendCell c i) 0 false)
        ∗ (bigSep usedSlots fun i => dutyTok ER (recvCell (target c i.1) i) 0 false) ∗ (bigSep usedSlots fun i => recvAny (target c i.1) i))
      ⊢ (bigSep usedSlots (toSend c) : sProp 𝕄) := by
  unfold toSend
  rw [bigSep_sep', bigSep_sep', bigSep_sep']
omit [FloatOps F] in
theorem toGet_intro (c : Dev nD) :
    iprop((bigSep usedSlots fun i => cred (tallyAt (recvCell c i) () N)) ∗ (bigSep usedSlots fun i => atPos ER (recvCell c i) 0 ∅ 0))
      ⊢ (bigSep usedSlots (toGet c) : sProp 𝕄) := by
  unfold toGet
  rw [bigSep_sep']

theorem got_any (c : Dev nD) (i : Slot) : recvGot m c i ⊢ recvAny c i := by
  unfold recvGot
  iintro ⟨%f, -, H⟩
  iapply (recv_any c i f); iexact H
theorem gotten_split (c : Dev nD) :
    bigSep usedSlots (gotten m c) ⊢ iprop((bigSep usedSlots fun i => recvAny c i) ∗ (bigSep usedSlots fun i => semVal (recvCell c i) 0)) := by
  unfold gotten
  rw [bigSep_sep']
  exact sep_mono_left (bigSep_mono fun i _ => got_any m c i)
omit [FloatOps F] in
theorem freed_split (c : Dev nD) :
    (bigSep usedSlots (freed c) : sProp 𝕄) ⊢ iprop((bigSep usedSlots fun i => sendAny c i) ∗ (bigSep usedSlots fun i => semVal (sendCell c i) 0)) := by
  unfold freed
  rw [bigSep_sep']

/-- The cells of the slots without a transfer close as they are. -/
theorem close_send (c : Dev nD) :
    iprop(recs m K ∗ bigSep unusedSlots fun i => atPos ER (sendCell c i) 0 ∅ 0)
      ⊢ |={Set.univ}=> bigSep unusedSlots fun i => semVal (sendCell c i) 0 :=
  (over_each fun i hi => by
    iintro ⟨#HR, Hat⟩
    iapply (Rounds.cell_close ER (rd m) (Set.mem_univ (K (c, kS i))) (fun h => h) (R := 0)
      (duties_unused_send m c i (Bool.eq_false_iff.mpr (Finset.mem_filter.mp hi).2)))
    isplitr; · iapply (recs_inv m K (c, kS i)); iexact HR
    iexact Hat).trans (bigSep_fupd _ _)
theorem close_recv (c : Dev nD) :
    iprop(recs m K ∗ bigSep unusedSlots fun i => atPos ER (recvCell c i) 0 ∅ 0)
      ⊢ |={Set.univ}=> bigSep unusedSlots fun i => semVal (recvCell c i) 0 :=
  (over_each fun i hi => by
    iintro ⟨#HR, Hat⟩
    iapply (Rounds.cell_close ER (rd m) (Set.mem_univ (K (c, kR i))) (fun h => h) (R := 0)
      (duties_unused_recv m c i (Bool.eq_false_iff.mpr (Finset.mem_filter.mp hi).2)))
    isplitr; · iapply (recs_inv m K (c, kR i)); iexact HR
    iexact Hat).trans (bigSep_fupd _ _)

/-! ## What the body starts from and leaves -/

variable (ρ : Dev nD → PrngReg)

/-- The memory at launch: any contents, every counter zero. -/
def s₀ : MemSt nD τ sig (Elt F) := ⟨m, fun _ => 0, ρ⟩

/-- A device's share of the schedule: the cells' records, its positions, the duties it pays. -/
def ghost (c : Dev nD) : sProp 𝕄 :=
  iprop(recs m K ∗ atPos ER (barCell c) 0 ∅ 0
    ∗ (bigSep Finset.univ fun i => atPos ER (sendCell c i) 0 ∅ 0) ∗ (bigSep Finset.univ fun i => atPos ER (recvCell c i) 0 ∅ 0)
    ∗ dutyTok ER (barCell (rgt c)) 0 false ∗ dutyTok ER (barCell (lft c)) 0 true
    ∗ (bigSep Finset.univ fun i => dutyTok ER (sendCell c i) 0 false)
    ∗ (bigSep Finset.univ fun i : Slot => dutyTok ER (recvCell (target c i.1) i) 0 false))

def credits (c : Dev nD) : sProp 𝕄 :=
  iprop(cred (tallyAt (barCell c) () 2) ∗ bigSep usedSlots fun i => cred (tallyAt (recvCell c i) () N))

def scr0 (c : Dev nD) : sProp 𝕄 := iprop(∃ f : Buf (Elt F) ((c : Thread nD τ).loc cc0_scratch0), ((c : Thread nD τ).loc cc0_scratch0) ↦{fullShare} f)
def scr1 (c : Dev nD) : sProp 𝕄 := iprop(∃ f : Buf (Elt F) ((c : Thread nD τ).loc cc0_scratch1), ((c : Thread nD τ).loc cc0_scratch1) ↦{fullShare} f)

def start (c : Dev nD) : sProp 𝕄 := iprop((∃ K, ghost m K c) ∗ credits c ∗ levAts L lv)
def Φ₀ (c : Dev nD) : sProp 𝕄 := iprop(start m c ∗ scr0 c ∗ scr1 c)
/-- After it: the two buffers, every counter at zero. -/
def Φ₁ (c : Dev nD) : sProp 𝕄 :=
  iprop(scr0 c ∗ scr1 c ∗ semVal (barCell c) 0
    ∗ (bigSep Finset.univ fun i => semVal (sendCell c i) 0) ∗ (bigSep Finset.univ fun i => semVal (recvCell c i) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

def wPts (c : Dev nD) : sProp 𝕄 := iprop(((c : Thread nD τ).loc cc0_stg1_0) ↦{fullShare} wstg m c)

theorem wp_loadW (c : Dev nD) (k : FVec F S128x2048 .bf16 → PR F) (Q : PUnit → sProp 𝕄) :
    iprop(wPts m c ∗ (wPts m c -∗ runs c (k (wts m c)) Q))
      ⊢ runs c (.op (.load wM wRect.toLoadRect (View.loadsAt_vmem h_S128x2048)) fun (w : Vec F S128x2048 .bf16) =>
          k (shapeCast S128x2048 w shapeCasts_S128x2048_S128x2048)) Q := by
  unfold wPts
  iintro ⟨Hw, Hk⟩
  iapply (wp_load 𝒱₀ (c : Thread nD τ) none Set.univ (m := wM) (Finset.subset_univ _)) $$ Hw; iintro Hw
  iapply Hk; iexact Hw

/-- The two buffers and all counters, put together again. -/
theorem rejoin (c : Dev nD) :
    iprop(bigSep usedSlots (gotten m c) ∗ bigSep usedSlots (freed c) ∗ (bigSep unusedSlots fun i => sendAny c i) ∗ (bigSep unusedSlots fun i => recvAny c i)
        ∗ (bigSep unusedSlots fun i => semVal (sendCell c i) 0) ∗ (bigSep unusedSlots fun i => semVal (recvCell c i) 0) ∗ semVal (barCell c) 0)
      ⊢ Φ₁ (F := F) c := by
  unfold Φ₁ scr0 scr1
  iintro ⟨Hg, Hf, Hs', Hr', HzS', HzV', HzB⟩
  ihave Hg := (gotten_split m c) $$ Hg
  icases Hg with ⟨Hr, HzV⟩
  ihave Hf := (freed_split c) $$ Hf
  icases Hf with ⟨Hs, HzS⟩
  isplitl [Hs Hs']
  · iapply ((Entails.of_eq (split_used fun i => sendAny c i).symm).trans (send_join c))
    isplitl [Hs]; · iexact Hs
    iexact Hs'
  isplitl [Hr Hr']
  · iapply ((Entails.of_eq (split_used fun i => recvAny c i).symm).trans (recv_join c))
    isplitl [Hr]; · iexact Hr
    iexact Hr'
  isplitl [HzB]; · iexact HzB
  isplitl [HzS HzS']
  · iapply (Entails.of_eq (split_used fun i => semVal (sendCell c i) 0).symm)
    isplitl [HzS]; · iexact HzS
    iexact HzS'
  iapply (Entails.of_eq (split_used fun i => semVal (recvCell c i) 0).symm)
  isplitl [HzV]; · iexact HzV
  iexact HzV'

theorem wp_prog (c : Dev nD) (g : cc0_stg2_0.ty.Contents (Elt F)) (W : Waits sig Unit) (Q : PUnit → sProp 𝕄) :
    iprop(ghost m K c ∗ credits c ∗ levAts L lv ∗ scr0 c ∗ scr1 c ∗ owes (c : Thread nD τ) (O₀ c) W
        ∗ xPts m c ∗ wPts m c ∗ oPts c g
        ∗ ((Φ₁ c ∗ owing c 0 ∗ xPts m c ∗ wPts m c ∗ oPts c (outAt m c)) -∗ Q ⟨⟩))
      ⊢ runs c (prog (F := F)) Q := by
  unfold prog ghost credits scr0 scr1 runs
  rw [wp_deviceId]
  iintro ⟨⟨#HR, HatB, HatS, HatV, HtN, HtP, HtS, HtV⟩, ⟨HcB, HcV⟩, #Hlev, ⟨%f0, Hs0⟩, ⟨%f1, Hs1⟩, HO, Hx, Hw, Hp, Hk⟩
  ihave Hs := ((send_split c f0).trans (Entails.of_eq (split_used _))) $$ Hs0
  icases Hs with ⟨Hs, Hs'⟩
  ihave Hr := ((recv_split c f1).trans (Entails.of_eq (split_used _))) $$ Hs1
  icases Hr with ⟨Hr, Hr'⟩
  ihave Hr := (Entails.of_eq (split_dir _)) $$ Hr
  icases Hr with ⟨Hrl, Hrr⟩
  ihave HatS := (Entails.of_eq (split_used _)) $$ HatS
  icases HatS with ⟨HatS, HatS'⟩
  ihave HatV := (Entails.of_eq (split_used _)) $$ HatV
  icases HatV with ⟨HatV, HatV'⟩
  ihave HtS := (Entails.of_eq (split_used _)) $$ HtS
  icases HtS with ⟨HtS, -⟩
  ihave HtV := (Entails.of_eq (split_used _)) $$ HtV
  icases HtV with ⟨HtV, -⟩
  -- the unit to the next device
  iapply (Rounds.wp_signal 𝒱₀ ER (rd m) (c : Thread nD τ) none (dst := (rgt c : Thread nD τ)) (κ := K (rgt c, kB)) (hr := Topo.routes_tc c (rgt c))
      (d := false) (by rw [duties_bar]; exact Finset.mem_univ _) ((amount_bar m (rgt c) false).trans (by decide)) () (O₁ c) rfl)
    $$ [HO HtN Hrl]
  · isplitr; · iapply (recs_inv m K (rgt c, kB)); iexact HR
    isplitl [HO]; · iexact HO
    isplitl [HtN]; · iexact HtN
    isplitl [Hrl]; · iapply (Entails.of_eq (pay_rgt m c)); iexact Hrl
    iapply (recs_reached m K (rgt c, kB)); iexact HR
  iintro HO
  -- and to the one before
  unfold O₁
  iapply (Rounds.wp_signal 𝒱₀ ER (rd m) (c : Thread nD τ) none (dst := (lft c : Thread nD τ)) (κ := K (lft c, kB)) (hr := Topo.routes_tc c (lft c))
      (d := true) (by rw [duties_bar]; exact Finset.mem_univ _) ((amount_bar m (lft c) true).trans (by decide)) () (owed c order) rfl)
    $$ [HO HtP Hrr]
  · isplitr; · iapply (recs_inv m K (lft c, kB)); iexact HR
    isplitl [HO]; · iexact HO
    isplitl [HtP]; · iexact HtP
    isplitl [Hrr]; · iapply (Entails.of_eq (pay_lft m c)); iexact Hrr
    iapply (recs_reached m K (lft c, kB)); iexact HR
  iintro HO
  -- the wait for both neighbours
  iapply (Rounds.wp_wait_rest_token 𝒱₀ ER (rd m) (c : Thread nD τ) none (κ := K (c, kB))
      (wpE_semWait_eq 𝒱₀ (c : Thread nD τ) none Set.univ) (Set.mem_univ _) () (O := owed c order) (W := W) (R := 0) (m := 0) (T := ∅)
      (by rw [expect_bar])) $$ [HcB HO HatB]
  · isplitr; · iapply (recs_inv m K (c, kB)); iexact HR
    isplitl [HcB]; · iexact HcB
    isplitl [HO]; · iexact HO
    isplitr
    · iapply (mayWait_owed c (.reg barS) order fun i _ => by
        rw [role_bar]; show 1 < 2 + i.2.1.val; omega)
      iexact Hlev
    iexact HatB
  iintro ⟨HO, HatB, -, Hpay⟩
  ihave Hd := (Entails.of_eq ((rest_bar m c).trans (barPay_both c))) $$ Hpay
  imod (Rounds.cell_close ER (rd m) (Set.mem_univ (K (c, kB))) (fun h => h) (R := 0 + 1) (duties_later m (barCell c))) $$ [HatB] with HzB
  · isplitr; · iapply (recs_inv m K (c, kB)); iexact HR
    iexact HatB
  imod (close_send m K c) $$ [HatS'] with HzS'
  · isplitr; · iexact HR
    iexact HatS'
  imod (close_recv m K c) $$ [HatV'] with HzV'
  · isplitr; · iexact HR
    iexact HatV'
  iapply (wp_loadW m c (steps c))
  isplitl [Hw]; · iexact Hw
  iintro Hw
  iapply (wp_steps m K c g Q)
  isplitr; · iexact HR
  isplitr; · iexact Hlev
  isplitl [Hx]; · iexact Hx
  isplitl [Hp]; · iexact Hp
  isplitl [Hs HtS HtV Hd]
  · iapply (toSend_intro c)
    isplitl [Hs]; · iexact Hs
    isplitl [HtS]; · iexact HtS
    isplitl [HtV]; · iexact HtV
    iexact Hd
  isplitl [HcV HatV]
  · iapply (toGet_intro c)
    isplitl [HcV]; · iexact HcV
    iexact HatV
  isplitl [HatS]; · iexact HatS
  isplitl [HO]
  · unfold owing; iexists _; iexact HO
  iintro ⟨Hx, Hp, Hg, Hf, HO⟩
  iapply Hk
  isplitl [Hg Hf Hs' Hr' HzS' HzV' HzB]
  · iapply (rejoin m c)
    isplitl [Hg]; · iexact Hg
    isplitl [Hf]; · iexact Hf
    isplitl [Hs']; · iexact Hs'
    isplitl [Hr']; · iexact Hr'
    isplitl [HzS']; · iexact HzS'
    isplitl [HzV']; · iexact HzV'
    iexact HzB
  isplitl [HO]; · iexact HO
  isplitl [Hx]; · iexact Hx
  isplitl [Hw]; · iexact Hw
  iexact Hp

/-! ## The launch's obligation -/

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ
    ∗ stg c cc0_stg0_0 (xstg m c) ∗ stg c cc0_stg1_0 (wstg m c) ∗ stg c cc0_stg2_0 (outAt m c))

theorem sound_body (c : Dev nD) : bodyPre m ρ c ⊢ runs c (prog (F := F)) (fun _ => bodyPost m ρ c) := by
  unfold bodyPre Φ₀ start
  iintro ⟨⟨⟨⟨%K, Hg⟩, Hc, #Hlev⟩, Hs0, Hs1⟩, Ho, ⟨%d0, %g0, %hg0, Hx⟩, ⟨%d1, %g1, %hg1, Hw⟩, ⟨%d2, %g2, %hg2, Hp⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (wp_prog m K c g2 W)
  isplitl [Hg]; · iexact Hg
  isplitl [Hc]; · iexact Hc
  isplitr; · iexact Hlev
  isplitl [Hs0]; · iexact Hs0
  isplitl [Hs1]; · iexact Hs1
  isplitl [HO]; · iexact HO
  isplitl [Hx]; · unfold xPts; iexact Hx
  isplitl [Hw]; · unfold wPts; iexact Hw
  isplitl [Hp]; · unfold oPts; iexact Hp
  unfold bodyPost Dat.owesAt Pipeline.owesWithin owing xPts wPts oPts
  rw [show (dats m ρ 0 c).owed t0_0.succ = 0 from rfl]
  iintro ⟨HΦ, ⟨%W', HO⟩, Hx, Hw, Hp⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hp

set_option maxRecDepth 65536 in
theorem body_obligation (c : Dev nD) : BodyObligation (dats (F := F) m ρ 0 c) (defs₀ (F := F)) 𝒱₀ () Set.univ := fun t => by
  rw [fin_N0 t, bigSep_W0, bigSep_W0]
  simp only [owns_whole_eq]
  have h := sound_body m ρ c
  rw [← body_eq] at h
  exact h

end Cert.RingProof

end
-- ==== Proof.Launch.lean ====
/- The launch: every device gets its positions and the duties it pays, and all of them run to their results. -/
module

public import Idealize.ShloMosaic.Lib.Pipeline.CollectiveSegs
public import proofs.«01_k».proof.Proof.Body

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

def roleOf : CIx → Role
  | .inl _ => .bar
  | .inr (.inl i) => .send i
  | .inr (.inr i) => .recv i
theorem role_csem : ∀ k : CIx, role (csem k) = roleOf k
  | .inl _ => role_bar
  | .inr (.inl i) => role_send i
  | .inr (.inr i) => role_recv i
theorem roleOf_injective : Function.Injective roleOf
  | .inl _, .inl _, _ => rfl
  | .inr (.inl i), .inr (.inl j), h => by cases h; rfl
  | .inr (.inr i), .inr (.inr j), h => by cases h; rfl
theorem csem_injective : Function.Injective csem := fun a b h =>
  roleOf_injective (by rw [← role_csem, ← role_csem, h])

/-- The kernel's own semaphores: the two tables. -/
abbrev osem (k : Slot ⊕ Slot) : SemLoc sig := csem (.inr k)

theorem stage_other : ∀ w s, role (.dma ((cfg0.spec w).sem s)) = .other := by decide +kernel
theorem ownSemFacts : Pipeline.OwnSemFacts cfg0.spec osem where
  isScoped := by decide +kernel
  inj a b h := Sum.inr_injective (csem_injective h)
  disj k w s h := by
    have e := (role_csem (.inr k)).symm.trans ((congrArg role h).trans (stage_other w s))
    rcases k with i | i <;> cases e

theorem share_eq (c : Dev nD) (w : Fin cfg0.W) : (dats m ρ 0 c).share w = fullShare := by unfold Dat.share; split <;> rfl

theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duty tokens of a device's cells: two of its barrier, one of each send and receive cell. -/
abbrev tokOf (cj : Dev nD × (Bool ⊕ (Slot ⊕ Slot))) : GSem nD τ sig × ℕ × Bool := match cj.2 with
  | .inl d => (barCell cj.1, 0, d)
  | .inr k => (kcell (cj.1, .inr k), 0, false)
theorem tokOf_injective : Function.Injective (tokOf : Dev nD × (Bool ⊕ (Slot ⊕ Slot)) → GSem nD τ sig × ℕ × Bool) := by
  rintro ⟨c, d | k⟩ ⟨c', d' | k'⟩ h
  · have h1 : c = c' := congrArg (fun x : GSem nD τ sig × ℕ × Bool => x.1.1.1) h
    have h2 : d = d' := congrArg (fun x : GSem nD τ sig × ℕ × Bool => x.2.2) h
    rw [h1, h2]
  · have h1 : kcell (c, .inl ()) = kcell (c', .inr k') := congrArg (fun x : GSem nD τ sig × ℕ × Bool => x.1) h
    exact absurd (congrArg Prod.snd (kcell_injective h1)) (fun h => by cases h)
  · have h1 : kcell (c, .inr k) = kcell (c', .inl ()) := congrArg (fun x : GSem nD τ sig × ℕ × Bool => x.1) h
    exact absurd (congrArg Prod.snd (kcell_injective h1)) (fun h => by cases h)
  · have h1 : kcell (c, .inr k) = kcell (c', .inr k') := congrArg (fun x : GSem nD τ sig × ℕ × Bool => x.1) h
    have h2 := kcell_injective h1
    rw [(Prod.mk.inj h2).1, Sum.inr_injective (Prod.mk.inj h2).2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun j : Bool ⊕ (Slot ⊕ Slot) => dutyTok ER (tokOf (c, j)).1 (tokOf (c, j)).2.1 (tokOf (c, j)).2.2

/-- What the launch deals to a device, and what the devices together make of it. -/
def G (c : Dev nD) : sProp 𝕄 :=
  iprop((bigSep Finset.univ fun k : CIx => roundState ER (rd m) (kcell (c, k)) 0)
    ∗ (bigSep Finset.univ fun k : CIx => iprop(atPos ER (kcell (c, k)) 0 ∅ 0 ∗ reached ER (kcell (c, k)) 0)) ∗ toks c)
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell c i) 0) ∗ (bigSep Finset.univ fun i => semVal (recvCell c i) 0)) := by
  unfold Pipeline.ownSems0; exact bigSep_univ_sum _
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
theorem over_cells (Φ : CIx → sProp 𝕄) : bigSep Finset.univ Φ
    = iprop(Φ kB ∗ (bigSep Finset.univ fun i => Φ (kS i)) ∗ bigSep Finset.univ fun i => Φ (kR i)) := by
  rw [bigSep_univ_sum, bigSep_univ_sum, bigSep_univ_of_subsingleton ()]
  rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, over_cells]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (rd m) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (rd m) (kcell (c, k)) 0)
      ⊢ (|={Set.univ}=> bigSep Finset.univ fun k : CIx => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay -/

def payToks (c : Dev nD) : sProp 𝕄 :=
  iprop(dutyTok ER (barCell (rgt c)) 0 false ∗ dutyTok ER (barCell (lft c)) 0 true
    ∗ (bigSep Finset.univ fun i => dutyTok ER (sendCell c i) 0 false)
    ∗ (bigSep Finset.univ fun i : Slot => dutyTok ER (recvCell (target c i.1) i) 0 false))

omit [FloatOps F] in
theorem toks_eq (c : Dev nD) : (toks c : sProp 𝕄) = iprop((dutyTok ER (barCell c) 0 false ∗ dutyTok ER (barCell c) 0 true)
    ∗ (bigSep Finset.univ fun i => dutyTok ER (sendCell c i) 0 false) ∗ (bigSep Finset.univ fun i => dutyTok ER (recvCell c i) 0 false)) := by
  unfold toks
  rw [bigSep_univ_sum, bigSep_univ_sum, bigSep_univ_eq_bigSepL [false, true] (by decide) (by decide), bigSepL_cons_cons, bigSepL_singleton]
  rfl

/-- A receive cell's token goes to the device that sends to it. -/
def shift : Dev nD × Slot ≃ Dev nD × Slot :=
  ⟨fun x => (target x.1 x.2.1, x.2), fun x => (source x.1 x.2.1, x.2),
    fun x => Prod.ext (source_target x.1 x.2.1) rfl, fun x => Prod.ext (target_source x.1 x.2.1) rfl⟩
omit [FloatOps F] in
theorem recv_around : (bigSep Finset.univ fun c : Dev nD => bigSep Finset.univ fun i : Slot => (dutyTok ER (recvCell c i) 0 false : sProp 𝕄))
    = bigSep Finset.univ fun c : Dev nD => bigSep Finset.univ fun i : Slot => dutyTok ER (recvCell (target c i.1) i) 0 false := by
  rw [← bigSep_univ_prod (fun x : Dev nD × Slot => (dutyTok ER (recvCell x.1 x.2) 0 false : sProp 𝕄)),
    bigSep_univ_equiv shift (fun x : Dev nD × Slot => (dutyTok ER (recvCell x.1 x.2) 0 false : sProp 𝕄)), bigSep_univ_prod]
  rfl

omit [FloatOps F] in
theorem toks_around : (bigSep Finset.univ fun c : Dev nD => (toks c : sProp 𝕄)) ⊢ bigSep Finset.univ fun c : Dev nD => payToks c := by
  rw [bigSep_congr (s := Finset.univ) (fun (c : Dev nD) _ => toks_eq c)]
  unfold payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)), recv_around]
  iintro ⟨⟨H1, H2⟩, H3, H4⟩
  isplitl [H1]; · iexact H1
  isplitl [H2]; · iexact H2
  isplitl [H3]; · iexact H3
  iexact H4

def linear (c : Dev nD) : sProp 𝕄 := iprop((bigSep Finset.univ fun k : CIx => atPos ER (kcell (c, k)) 0 ∅ 0) ∗ payToks c)

theorem ghost_intro (K : Dev nD × CIx → ℕ) (c : Dev nD) : iprop(recs m K ∗ linear c) ⊢ G' m c := by
  unfold linear payToks G' ghost
  rw [over_cells]
  iintro ⟨#HR, ⟨HB, HS, HV⟩, Hd⟩
  iexists K
  isplitr; · iexact HR
  isplitl [HB]; · iexact HB
  isplitl [HS]; · iexact HS
  isplitl [HV]; · iexact HV
  iexact Hd

theorem regroup :
    (bigSep Finset.univ fun c : Dev nD => iprop((bigSep Finset.univ fun k : CIx => iprop(∃ κ : ℕ, cellInv ER (rd m) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (rd m) κ (kcell ck) : sProp 𝕄))) $$ HI
  icases HK with ⟨%K, #HI⟩
  ihave Htk := (toks_around (F := F)) $$ Htok
  iapply (over_each (R := recs m K) fun c _ => ghost_intro m K c)
  isplitr
  · unfold recs; isplitl; · iexact HI
    iexact HR
  · iapply (Entails.of_eq (bigSep_sep' Finset.univ (fun c : Dev nD => bigSep Finset.univ fun k : CIx => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem bar_ne_recv (c d : Dev nD) (i : Slot) : barCell c ≠ recvCell d i := fun h => by
  cases (role_csem kB).symm.trans ((congrArg (fun g : GSem nD τ sig => role g.2) h).trans (role_csem (kR i)))
theorem bar_inj {a b : Dev nD} (h : barCell a = barCell b) : a = b := congrArg (fun g : GSem nD τ sig => g.1.1) h
theorem recv_inj {a b : Dev nD} {i j : Slot} (h : recvCell a i = recvCell b j) : a = b ∧ i = j := by
  have h' : kcell (a, kR i) = kcell (b, kR j) := h
  have e := kcell_injective h'
  exact ⟨(Prod.mk.inj e).1, Sum.inr_injective (Sum.inr_injective (Prod.mk.inj e).2)⟩

theorem owed_at_bar (d c : Dev nD) (l : List Slot) : owed d l (barCell c) () = 0 := by
  by_contra h
  obtain ⟨i, _, e⟩ := owed_pos (Nat.pos_of_ne_zero h)
  exact bar_ne_recv _ _ _ e
theorem owed_at_recv (d c : Dev nD) (i : Slot) (l : List Slot) (hl : l.Nodup) :
    owed d l (recvCell c i) () = if i ∈ l ∧ d = source c i.1 then N else 0 := by
  induction l with
  | nil => rw [if_neg fun h => absurd h.1 List.not_mem_nil]; rfl
  | cons j l ih =>
    unfold owed
    rw [Pi.add_apply, Finsupp.add_apply, tallyAt_apply, ih (List.nodup_cons.mp hl).2]
    by_cases hj : i = j
    · subst hj
      rw [if_neg fun h => (List.nodup_cons.mp hl).1 h.1, Nat.zero_add]
      by_cases hd : d = source c i.1
      · rw [if_pos ⟨by rw [hd, target_source], rfl⟩, if_pos ⟨List.mem_cons_self, hd⟩]
      · rw [if_neg fun h => hd (by rw [(recv_inj h.1).1, source_target]), if_neg fun h => hd h.2]
    · have hne : ¬ (recvCell c i = recvCell (target d j.1) j ∧ () = ()) := fun h => hj (recv_inj h.1).2
      rw [if_neg hne, Nat.add_zero]
      refine if_congr ?_ rfl rfl
      rw [List.mem_cons, or_iff_right hj]

theorem owed_bar (d c : Dev nD) : O₀ d (barCell c) () = (if d = rgt c then 1 else 0) + (if d = lft c then 1 else 0) := by
  unfold O₀ O₁
  rw [Pi.add_apply, Finsupp.add_apply, Pi.add_apply, Finsupp.add_apply, owed_at_bar, tallyAt_apply, tallyAt_apply, Nat.zero_add]
  congr 1
  · by_cases h : d = rgt c
    · rw [if_pos h, if_pos ⟨by rw [h, lft_rgt], rfl⟩]
    · rw [if_neg h, if_neg fun h' => h (by rw [bar_inj h'.1, rgt_lft])]
  · by_cases h : d = lft c
    · rw [if_pos h, if_pos ⟨by rw [h, rgt_lft], rfl⟩]
    · rw [if_neg h, if_neg fun h' => h (by rw [bar_inj h'.1, lft_rgt])]
theorem owed_recv (d c : Dev nD) (i : Slot) (hu : used i = true) : O₀ d (recvCell c i) () = if d = source c i.1 then N else 0 := by
  unfold O₀ O₁
  rw [Pi.add_apply, Finsupp.add_apply, Pi.add_apply, Finsupp.add_apply, owed_at_recv d c i order order_nodup,
    tallyAt_ne_cell (fun h => bar_ne_recv _ _ _ h.symm), tallyAt_ne_cell (fun h => bar_ne_recv _ _ _ h.symm), Finsupp.zero_apply, Nat.add_zero, Nat.add_zero]
  have hi : i ∈ order := List.mem_toFinset.mp (order_slots ▸ Finset.mem_filter.mpr ⟨Finset.mem_univ i, hu⟩)
  exact if_congr (and_iff_right hi) rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (rgt c) fun _ => 1, Finset.sum_ite_eq' Finset.univ (lft c) fun _ => 1, if_pos (Finset.mem_univ _), if_pos (Finset.mem_univ _)]
theorem launch_recv (c : Dev nD) (i : Slot) (hu : used i = true) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i hu,
    Finset.sum_ite_eq' Finset.univ (source c i.1) fun _ => N, if_pos (Finset.mem_univ _)]

def recvSems : Finset (SemLoc sig) :=
  usedSlots.map ⟨fun i => SemLoc.dma (recvSem i), fun i j h => Sum.inr_injective (Sum.inr_injective (csem_injective (show csem (kR i) = csem (kR j) from h)))⟩

omit [FloatOps F] in
theorem creds (c : Dev nD) : (Pipeline.launchCred O₀ c : sProp 𝕄) ⊢ credits c := by
  unfold Pipeline.launchCred credits
  rw [bigSep_univ_at _ (SemLoc.reg barS), launch_bar]
  have hs : recvSems ⊆ Finset.univ.erase (SemLoc.reg barS) := fun sm hs => by
    obtain ⟨i, _, rfl⟩ := Finset.mem_map.mp hs
    refine Finset.mem_erase.mpr ⟨fun h => ?_, Finset.mem_univ _⟩
    exact absurd (csem_injective (show csem (kR i) = csem kB from h)) (fun h => by cases h)
  have he : (bigSep recvSems fun sm : SemLoc sig => (cred (tallyOn ((c.tc : Thread nD τ), sm) (launchCredit (Pipeline.owing O₀) 0 ((c.tc : Thread nD τ), sm))) : sProp 𝕄))
      = bigSep usedSlots fun i => cred (tallyAt (recvCell c i) () N) := by
    unfold recvSems
    rw [bigSep_map]
    exact bigSep_congr fun i hi => congrArg cred (launch_recv c i (Finset.mem_filter.mp hi).2)
  rw [← he]
  exact sep_mono_right (bigSep_subset hs)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr0 scr1
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr0 scr1
  iintro ⟨H0, H1, HzB, HzS, HzV⟩
  isplitl [HzB]; · iexact HzB
  isplitl [HzS HzV]
  · isplitl [HzS]; · iexact HzS
    iexact HzV
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_other w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every run ends, with every array at its contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m (win0_0.arr.view.loc (c : Thread nD τ)) :=
  (dats (F := F) m ρ 0 c).arrAt_in (0 : Fin 3) rfl _
theorem finalA_w (c : Dev nD) : finalA m ρ c (1 : Fin 3) = m (win0_1.arr.view.loc (c : Thread nD τ)) :=
  (dats (F := F) m ρ 0 c).arrAt_in (1 : Fin 3) rfl _

end Cert.RingProof

end
-- ==== Proof.Frames.lean ====
/- The runs read at the arrays: every program leaves its arguments as they were and its counters at zero, and the
   kernel leaves `outAt` in its result. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.RingProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The one write-back of the result's window leaves what the body left in the window's buffer. -/
theorem finalA_o (c : Dev nD) :
    (win0_2.blk (0 : Fin 1)).view.read (Elt F) (finalA m ρ c (2 : Fin 3)) = outAt m c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The window is the whole array. -/
theorem final_out (c : Dev nD) : finalA m ρ c (2 : Fin 3) = outAt m c :=
  (Memref.read_access_unit_zero (Val := Elt F) main_v1 (by funext a; fin_cases a <;> rfl) _ _).symm.trans (finalA_o m ρ c)

/-- The kernel's run: the result, the arguments and the counters. -/
theorem run_kernel : θ_run defs (onTc (τ := τ) (main (F := F))) ⟨m, fun _ => 0, ρ⟩ fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c => ⟨(h.1 c (2 : Fin 3)).trans (final_out m ρ c),
    (h.1 c (0 : Fin 3)).trans (finalA_x m ρ c), (h.1 c (1 : Fin 3)).trans (finalA_w m ρ c)⟩, h.2⟩) (run_main m ρ)

theorem frame_ideal : Cert.quiescent_KernelIdeal := fun m ρ _ =>
  (θ_run defs _ _).mono (fun _ h => ⟨fun c => (h.1 c).2, h.2⟩) (run_kernel (F := Ideal) m ρ)

/-! The kernel at its own formats is the same text. -/

set_option maxRecDepth 65536 in
theorem same_body : Cert.Kernel.cc0_body (F := Bits) = cc0_body (F := Bits) := rfl
theorem same_table : Cert.Kernel.defs₀ (F := Bits) = defs₀ (F := Bits) := by
  unfold Cert.Kernel.defs₀ defs₀
  refine congrArg Defs.onTc (funext fun ℓ => funext fun a => ?_)
  fin_cases ℓ
  rfl
theorem same_defs : Cert.Kernel.defs (F := Bits) = defs (F := Bits) := by
  unfold Cert.Kernel.defs defs
  rw [← same_table]
  rfl

theorem frame_kernel : Cert.quiescent_Kernel := by
  intro m ρ _
  have h := (θ_run defs _ _).mono (fun _ h => (⟨fun c => (h.1 c).2, h.2⟩ : (∀ c : Dev nD, _ ∧ _) ∧ _))
    (run_kernel (F := Bits) m ρ)
  rw [same_defs]
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingProof

end
-- ==== Proof.Around.lean ====
/- Going round the ring.

   A family brings a device the products of the devices behind it on its side, eight on the long side, seven on the
   short one. With the device itself these are all sixteen, each once, and every one of them multiplied the rows the
   device keeps. -/
module

public import proofs.«01_k».proof.Proof.Out
public import Mathlib.Algebra.BigOperators.Fin

@[expose] public section

namespace Cert.RingProof

open Cert.KernelIdeal Cert.KernelIdeal.Gen
open Idealize.ShloMosaic
open scoped BigOperators

/-- The device `n` places up the stream of family `f`. -/
def back (f : Fin 4) : ℕ → Dev nD → Dev nD
  | 0, c => c
  | n + 1, c => back f n (source c f)

/-- The devices device `c` adds up in half `h`: itself, eight of the long family, seven of the short one. -/
def ahead (h : Fin 2) (c : Dev nD) (k : Fin 16) : Dev nD :=
  if k.val ≤ 8 then back (long h) k.val c else back (short h) (k.val - 8) c

theorem ahead_injective : ∀ (h : Fin 2) (c : Dev nD) (i j : Fin 16), ahead h c i = ahead h c j → i = j := by
  decide +kernel

/-- They are all the devices. -/
theorem sum_around {M : Type} [AddCommMonoid M] (g : Dev nD → M) (h : Fin 2) (c : Dev nD) :
    (g c + ∑ s ∈ Finset.range 8, g (back (long h) (s + 1) c)) + ∑ s ∈ Finset.range 7, g (back (short h) (s + 1) c)
      = ∑ d, g d := by
  have hb : Function.Bijective (ahead h c) :=
    Finite.injective_iff_bijective.mp fun i j e => ahead_injective h c i j e
  rw [← (Equiv.ofBijective (ahead h c) hb).sum_comp g]
  have hl : ∀ s : Fin 8, g (ahead h c (s.succ.castLE (by decide))) = g (back (long h) (s.val + 1) c) := fun s => by
    unfold ahead; rw [if_pos (by show s.val + 1 ≤ 8; omega)]; rfl
  have hs : ∀ s : Fin 7, g (ahead h c (s.natAdd 9)) = g (back (short h) (s.val + 1) c) := fun s => by
    unfold ahead
    rw [if_neg (by show ¬ (9 + s.val ≤ 8); omega)]
    exact congrArg (fun n => g (back (short h) n c)) (by show 9 + s.val - 8 = s.val + 1; omega)
  show _ = ∑ k : Fin (9 + 7), g (ahead h c k)
  rw [Fin.sum_univ_add, Fin.sum_univ_succ, Finset.sum_range, Finset.sum_range]
  exact congrArg₂ (· + ·) (congrArg₂ (· + ·) rfl (Finset.sum_congr rfl fun s _ => (hl s).symm))
    (Finset.sum_congr rfl fun s _ => (hs s).symm)

/-- A device keeps its own rows; -/
theorem own_rows : ∀ c : Dev nD, ownOff c 0 = 128 * c.val ∧ ownOff c 1 = 0 := by decide +kernel
/-- the others multiplied the same rows for it, on the long side -/
theorem long_rows : ∀ (h : Fin 2) (s : Fin 8) (c : Dev nD),
    xOff (back (long h) (s.val + 1) c) (long h) (Fin.ofNat 8 (7 - s.val)) 0 = 128 * c.val
      ∧ xOff (back (long h) (s.val + 1) c) (long h) (Fin.ofNat 8 (7 - s.val)) 1 = 0 := by decide +kernel
/-- and on the short one. -/
theorem short_rows : ∀ (h : Fin 2) (s : Fin 7) (c : Dev nD),
    xOff (back (short h) (s.val + 1) c) (short h) (Fin.ofNat 8 (6 - s.val)) 0 = 128 * c.val
      ∧ xOff (back (short h) (s.val + 1) c) (short h) (Fin.ofNat 8 (6 - s.val)) 1 = 0 := by decide +kernel

end Cert.RingProof

end
-- ==== Proof.Sum.lean ====
/- The kernel's result over the extended reals: at each place the sum over the devices of their products of the rows
   the device keeps, through the closing function. A change of format changes nothing here. -/
module

public import proofs.«01_k».proof.Proof.Around
public import Idealize.ShloMosaic.Lib.MatmulPlain
public import Idealize.ShloMosaic.Lib.ValueIdx
public import Idealize.ShloMosaic.Lib.IdealHost
public import Idealize.ShloMosaic.Lib.Pipeline.Value

@[expose] public section

noncomputable section

namespace Cert.RingProof

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-! ## The operations of a block, at a place -/

/-- A column of a block of a half, in the whole. -/
def col (h b : Fin 2) (j : Fin 512) : Fin 2048 := ⟨1024 * h.val + 512 * b.val + j.val, by omega⟩
/-- The half a family is for. -/
def side (f : Fin 4) : Fin 2 := match f with
  | 0 | 1 => 0
  | 2 | 3 => 1
theorem side_long (h : Fin 2) : side (long h) = h := by fin_cases h <;> rfl
theorem side_short (h : Fin 2) : side (short h) = h := by fin_cases h <;> rfl

theorem half_apply (f : Fin 4) (w : FVec Ideal S128x2048 .bf16) (k : Fin 128) (j : Fin 1024) :
    half f w (ix2 k j) = w (ix2 k ⟨1024 * (side f).val + j.val, by omega⟩) := by
  fin_cases f <;> refine congrArg w (funext fun a => Fin.ext ?_) <;> fin_cases a <;> simp [side]

theorem sub_apply (b : Fin 2) (p : FVec Ideal S128x1024 .f32) (i : Fin 128) (j : Fin 512) :
    sub b p (ix2 i j) = p (ix2 i ⟨512 * b.val + j.val, by omega⟩) := by
  fin_cases b <;> refine congrArg p (funext fun a => Fin.ext ?_) <;> fin_cases a <;> simp

/-- A block of the product of 128 rows and a half. -/
theorem part_apply (f : Fin 4) (b : Fin 2) (w : FVec Ideal S128x2048 .bf16) (x : FVec Ideal S128x128 .bf16) (i : Fin 128)
    (j : Fin 512) : sub b (part f w x) (ix2 i j) = ∑ k : Fin 128, x (ix2 i k) * w (ix2 k (col (side f) b j)) := by
  rw [sub_apply]
  unfold part
  rw [shapeCast_self]
  refine (Ideal.matmul_plain_apply (M := 128) (K := 128) (N := 1024) none x (half f w) _ i _).trans ?_
  rw [constant_apply, Ideal.ofBits_zero_f32, zero_add]
  refine Finset.sum_congr rfl fun k _ => ?_
  rw [half_apply]
  refine congrArg (fun n => x (ix2 i k) * w (ix2 k n)) (Fin.ext ?_)
  show 1024 * (side f).val + (512 * b.val + j.val) = 1024 * (side f).val + 512 * b.val + j.val
  omega

/-- What was packed is added as it was. -/
theorem plus_pack (v u : FVec Ideal S128x512 .f32) (y : S128x512.Idx) : plus v (pack u) y = v y + u y := by
  unfold plus pack
  rw [shapeCast_shapeCast]
  rfl

/-! ## The rows of an operand -/

/-- The rows that start at `off`. -/
theorem read_rows (X : (cc0_stg0_0 : Ref sig .tc).ty.Contents (Elt Ideal)) (off : Fin 2 → Nat)
    (inb : ∀ a, off a + S128x128.size a ≤ S2048x128.size a) (r : Fin 2048) (i k : Fin 128) (hr : r.val = off 0 + i.val)
    (h1 : off 1 = 0) :
    (xM.view.readAt (Elt Ideal) (Rect.unit (s := S2048x128) off S128x128.size inb).toLoadRect X : FVec Ideal S128x128 .bf16) (ix2 i k)
      = (X : FVec Ideal S2048x128 .bf16) (ix2 r k) := by
  refine congrArg X (funext fun a => Fin.ext ?_)
  fin_cases a
  · show off 0 + 1 * i.val = r.val; omega
  · show off 1 + 1 * k.val = k.val; omega

/-- Row `i` of the rows device `c` keeps. -/
def row (c : Dev nD) (i : Fin 128) : Fin 2048 := ⟨128 * c.val + i.val, by have h : c.val < 16 := c.isLt; omega⟩

/-- The columns of `x` a device holds. -/
def xs (d : Dev nD) : FVec Ideal S2048x128 .bf16 := xstg m d

/-- The product of device `d` at a place of the rows device `c` keeps. -/
def share (c d : Dev nD) (i : Fin 128) (n : Fin 2048) : EReal :=
  ∑ k : Fin 128, xs m d (ix2 (row c i) k) * wts m d (ix2 k n)

theorem own_apply (c : Dev nD) (f : Fin 4) (b : Fin 2) (i : Fin 128) (j : Fin 512) :
    sub b (own m c f) (ix2 i j) = share m c c i (col (side f) b j) := by
  unfold own
  rw [part_apply]
  exact Finset.sum_congr rfl fun k _ => congrArg (· * _)
    (read_rows (xstg m c) (ownOff c) _ (row c i) i k (by rw [(own_rows c).1]; rfl) (own_rows c).2)

theorem prod_apply (c d : Dev nD) (f : Fin 4) (t : Fin 8) (b : Fin 2) (i : Fin 128) (j : Fin 512)
    (h0 : xOff d f t 0 = 128 * c.val) (h1 : xOff d f t 1 = 0) :
    sub b (prod m d f t) (ix2 i j) = share m c d i (col (side f) b j) := by
  unfold prod
  rw [part_apply]
  exact Finset.sum_congr rfl fun k _ => congrArg (· * _)
    (read_rows (xstg m d) (xOff d f t) _ (row c i) i k (by rw [h0]; rfl) h1)

/-! ## What a transfer carries -/

/-- The block before it is packed. -/
def carried (f : Fin 4) (b : Fin 2) : (t : ℕ) → (h : t < 8) → Dev nD → FVec Ideal S128x512 .f32
  | 0, h, c => sub b (prod m c f ⟨0, h⟩)
  | t + 1, h, c => plus (sub b (prod m c f ⟨t + 1, h⟩)) (pack (carried f b t (Nat.lt_of_succ_lt h) (source c f)))

theorem msg_eq (f : Fin 4) (b : Fin 2) : (t : ℕ) → (h : t < 8) → (c : Dev nD) → msg m f b t h c = pack (carried m f b t h c)
  | 0, h, c => rfl
  | t + 1, h, c => by
    unfold msg carried
    rw [msg_eq f b t]

/-- It is the sum of the products up the stream. -/
theorem carried_apply (f : Fin 4) (b : Fin 2) (y : S128x512.Idx) : (t : ℕ) → (h : t < 8) → (c : Dev nD) →
    carried m f b t h c y
      = ∑ s ∈ Finset.range (t + 1), (sub b (prod m (back f s c) f (Fin.ofNat 8 (t - s))) : FVec Ideal S128x512 .f32) y
  | 0, h, c => by
    rw [Finset.sum_range_one]; rfl
  | t + 1, h, c => by
    unfold carried
    rw [plus_pack, carried_apply f b y t, Finset.sum_range_succ' _ (t + 1), add_comm]
    refine congrArg₂ (· + ·) (Finset.sum_congr rfl fun s _ => ?_) ?_
    · rw [Nat.add_sub_add_right]; rfl
    · exact congrArg (fun u : Fin 8 => (sub b (prod m c f u) : FVec Ideal S128x512 .f32) y)
        (Fin.ext (by show t + 1 = (t + 1 - 0) % 8; omega))

/-! ## The result -/

theorem long_sum (c : Dev nD) (h b : Fin 2) (i : Fin 128) (j : Fin 512) :
    carried m (long h) b 7 (by decide) (source c (long h)) (ix2 i j)
      = ∑ s ∈ Finset.range 8, share m c (back (long h) (s + 1) c) i (col h b j) := by
  rw [carried_apply]
  refine Finset.sum_congr rfl fun s hs => ?_
  have e := long_rows h ⟨s, Finset.mem_range.mp hs⟩ c
  exact (prod_apply m c (back (long h) (s + 1) c) (long h) (Fin.ofNat 8 (7 - s)) b i j e.1 e.2).trans (by rw [side_long])

theorem short_sum (c : Dev nD) (h b : Fin 2) (i : Fin 128) (j : Fin 512) :
    carried m (short h) b 6 (by decide) (source c (short h)) (ix2 i j)
      = ∑ s ∈ Finset.range 7, share m c (back (short h) (s + 1) c) i (col h b j) := by
  rw [carried_apply]
  refine Finset.sum_congr rfl fun s hs => ?_
  have e := short_rows h ⟨s, Finset.mem_range.mp hs⟩ c
  exact (prod_apply m c (back (short h) (s + 1) c) (short h) (Fin.ofNat 8 (6 - s)) b i j e.1 e.2).trans (by rw [side_short])

/-- The closing function: an extended real over one plus the exponential of its opposite. -/
def silu (z : EReal) : EReal := Ideal.div z (1 + Ideal.exp (-z))

theorem exp_nonneg (z : EReal) : 0 ≤ Ideal.exp z := by
  induction z using EReal.rec with
  | bot => simp
  | top => simp
  | coe r => exact EReal.coe_nonneg.mpr (Real.exp_pos r).le

theorem act_apply (v : FVec Ideal S128x512 .f32) (y : S128x512.Idx) : act v y = silu (v y) :=
  Ideal.mul_one_div (fun e => by
    have h : (1 : EReal) ≤ 1 + Ideal.exp (-(v y)) := le_add_of_nonneg_right (exp_nonneg _)
    rw [e] at h
    exact absurd h (by simp))

theorem outBlk_apply (c : Dev nD) (h b : Fin 2) (i : Fin 128) (j : Fin 512) :
    outBlk m c h b (ix2 i j) = silu (∑ d, share m c d i (col h b j)) := by
  unfold outBlk
  rw [act_apply]
  refine congrArg silu ?_
  unfold got sent
  rw [msg_eq, msg_eq, plus_pack, plus_pack, own_apply, side_long]
  refine (congrArg₂ (· + ·) (congrArg₂ (· + ·) rfl (long_sum m c h b i j)) (short_sum m c h b i j)).trans ?_
  exact sum_around (fun d => share m c d i (col h b j)) h c

/-- The result of device `c`. -/
theorem outAt_apply (c : Dev nD) (i : Fin 128) (n : Fin 2048) :
    (outAt m c : FVec Ideal S128x2048 .f32) (ix2 i n) = silu (∑ d, share m c d i n) := by
  have e : inBlk (ix2 i n) = ix2 i (⟨n.val % 512, Nat.mod_lt _ (by decide)⟩ : Fin 512) := by
    funext a; fin_cases a <;> rfl
  show outBlk m c (halfOf (ix2 i n)) (blkOf (ix2 i n)) (inBlk (ix2 i n)) = _
  rw [e, outBlk_apply]
  refine congrArg (fun n' => silu (∑ d, share m c d i n')) (Fin.ext ?_)
  show 1024 * (n.val / 1024 % 2) + 512 * (n.val / 512 % 2) + n.val % 512 = n.val
  omega

end Cert.RingProof

end
-- ==== Proof.Plain.lean ====
/- The plain reference's result. -/
module

public import proofs.«01_k».proof.Proof.Frames
public import proofs.«01_k».proof.Proof.Sum
public import Idealize.ShloMosaic.Lib.StackMember

@[expose] public section

noncomputable section

namespace Cert.RingProof

open Idealize.ShloMosaic Idealize.ShloMosaic.TcCoe Idealize.ShloMosaic.ValueIdx Idealize.SL.Sem
open scoped BigOperators

/-! ## The reference -/

/-- The whole operands. -/
abbrev Whole : Type := FVec Ideal Cert.ReferenceIdeal.S2048x2048 .bf16

/-- The reference's result. -/
def refOut (X W : Whole) : FVec Ideal Cert.ReferenceIdeal.S2048x2048 .f32 :=
  fun y => silu (∑ k : Fin 2048, X (ix2 (y 0) k) * W (ix2 k (y 1)))

/-- Its operations, one after the other, leave it. -/
theorem ref_value (X W : Whole) :
    Host.divf (Host.dotGeneral Cert.ReferenceIdeal.dot_S2048x2048_S2048x2048_S2048x2048_1_0_0_1_n_n none
        (extf .f32 X Cert.ReferenceIdeal.Facts₀.bitsLt_bf16_f32) (extf .f32 W Cert.ReferenceIdeal.Facts₀.bitsLt_bf16_f32))
      (addf (broadcastInDim Cert.ReferenceIdeal.S2048x2048 ![] Cert.ReferenceIdeal.Facts₀.bcast_S_S2048x2048
          (constant Cert.ReferenceIdeal.S_ .f32 0x3F800000#32))
        (Host.exp (Host.negf (Host.dotGeneral Cert.ReferenceIdeal.dot_S2048x2048_S2048x2048_S2048x2048_1_0_0_1_n_n none
          (extf .f32 X Cert.ReferenceIdeal.Facts₀.bitsLt_bf16_f32) (extf .f32 W Cert.ReferenceIdeal.Facts₀.bitsLt_bf16_f32)))))
      = refOut X W := by
  funext y
  have hz : Host.dotGeneral Cert.ReferenceIdeal.dot_S2048x2048_S2048x2048_S2048x2048_1_0_0_1_n_n none
      (extf .f32 X Cert.ReferenceIdeal.Facts₀.bitsLt_bf16_f32) (extf .f32 W Cert.ReferenceIdeal.Facts₀.bitsLt_bf16_f32) y
        = ∑ k : Fin 2048, X (ix2 (y 0) k) * W (ix2 k (y 1)) := by
    rw [eq_ix2 y]
    exact StackMember.dotGeneral_plain_apply (m := 2048) (k := 2048) (n := 2048) none _ _ (y 0) (y 1)
  have h1 : broadcastInDim Cert.ReferenceIdeal.S2048x2048 ![] Cert.ReferenceIdeal.Facts₀.bcast_S_S2048x2048
      (constant (F := Ideal) Cert.ReferenceIdeal.S_ .f32 0x3F800000#32) y = 1 := by
    rw [broadcastInDim_scalar_apply, constant_apply, Ideal.ofBits_one_f32]
  unfold refOut silu
  rw [← hz, ← h1]
  rfl

theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread _ Cert.ReferenceIdeal.τ).loc Cert.ReferenceIdeal.main_v7)
            = refOut (m ((c.tc : Thread _ Cert.ReferenceIdeal.τ).loc Cert.ReferenceIdeal.main_arg0))
                (m ((c.tc : Thread _ Cert.ReferenceIdeal.τ).loc Cert.ReferenceIdeal.main_arg1))
          ∧ r.2.mem ((c.tc : Thread _ Cert.ReferenceIdeal.τ).loc Cert.ReferenceIdeal.main_arg0)
              = m ((c.tc : Thread _ Cert.ReferenceIdeal.τ).loc Cert.ReferenceIdeal.main_arg0)
          ∧ r.2.mem ((c.tc : Thread _ Cert.ReferenceIdeal.τ).loc Cert.ReferenceIdeal.main_arg1)
              = m ((c.tc : Thread _ Cert.ReferenceIdeal.τ).loc Cert.ReferenceIdeal.main_arg1) := by
  refine (θ_run Cert.ReferenceIdeal.defs _ _).mono (fun r h c => ⟨(h c).1.trans ?_, (h c).2⟩)
    (Cert.ReferenceIdeal.Value.run (F := Ideal) m ρ)
  exact ref_value _ _

end Cert.RingProof

end
-- ==== Proof.Clipped.lean ====
/- The reference with its clip: its result, and that it is the plain one's wherever the clip does nothing. -/
module

public import proofs.«01_k».proof.Proof.Plain
public import proofs.«01_k».proof.Proof.Gen.ClippedIdeal
public import proofs.«01_k».proof.Proof.Gen.ClippedIdeal.Run

@[expose] public section

noncomputable section

namespace Cert.RingProof

open Idealize.ShloMosaic Idealize.ShloMosaic.TcCoe Idealize.ShloMosaic.ValueIdx Idealize.SL.Sem
open scoped BigOperators

theorem frame_clipped : Cert.quiescent_ClippedIdeal := fun m ρ _ =>
  (θ_run Cert.ClippedIdeal.defs _ _).mono (fun r h => ⟨fun c => (h c).2, sem_eq_zero_of_no_sems (by decide) r.2⟩)
    (Cert.ClippedIdeal.Value.run (F := Ideal) m ρ)

instance facts_idle : Cert.On_clip_idle.Facts := ⟨by decide, by decide, by decide⟩

/-! ## The clip, of one extended real -/

/-- The bound. -/
def bound : EReal := Ideal.ofBits .f32 0x42700000#32
theorem neg_bound : Ideal.ofBits .f32 0xC2700000#32 = -bound := by
  unfold bound
  simp [Ideal.ofBits, Ideal.ieee, -EReal.coe_mul]

def clip (z : EReal) : EReal := min bound (max (-bound) z)
theorem clip_idle (z : EReal) (h : max z (-z) ≤ bound) : clip z = z := by
  obtain ⟨h1, h2⟩ := max_le_iff.mp h
  unfold clip
  rw [max_eq_right (EReal.neg_le.mp h2), min_eq_right h1]

/-- The closing function with the exponent clipped. -/
def siluClip (z : EReal) : EReal := Ideal.div z (1 + Ideal.exp (-(clip z)))
theorem silu_clip (z : EReal) (h : max z (-z) ≤ bound) : siluClip z = silu z := by
  unfold siluClip silu
  rw [clip_idle z h]

/-! ## The reference -/

/-- The product at a place. -/
def dotAt (X W : Whole) (y : Cert.ReferenceIdeal.S2048x2048.Idx) : EReal := ∑ k : Fin 2048, X (ix2 (y 0) k) * W (ix2 k (y 1))

/-- The reference's result. -/
def clipOut (X W : Whole) : FVec Ideal Cert.ReferenceIdeal.S2048x2048 .f32 := fun y => siluClip (dotAt X W y)

theorem dot_value (X W : Whole) (y : Cert.ReferenceIdeal.S2048x2048.Idx) :
    Host.dotGeneral Cert.ClippedIdeal.dot_S2048x2048_S2048x2048_S2048x2048_1_0_0_1_n_n none
      (extf .f32 X Cert.ClippedIdeal.Facts₀.bitsLt_bf16_f32) (extf .f32 W Cert.ClippedIdeal.Facts₀.bitsLt_bf16_f32) y = dotAt X W y := by
  rw [eq_ix2 y]
  exact StackMember.dotGeneral_plain_apply (m := 2048) (k := 2048) (n := 2048) none _ _ (y 0) (y 1)

theorem scalar_value (b : BitVec 32) (y : Cert.ReferenceIdeal.S2048x2048.Idx) :
    broadcastInDim Cert.ClippedIdeal.S2048x2048 ![] Cert.ClippedIdeal.Facts₀.bcast_S_S2048x2048
      (constant (F := Ideal) Cert.ClippedIdeal.S_ .f32 b) y = Ideal.ofBits .f32 b := by
  rw [broadcastInDim_scalar_apply, constant_apply]

/-- Its operations, one after the other, leave it. -/
theorem clip_value (X W : Whole) :
    Host.divf (Host.dotGeneral Cert.ClippedIdeal.dot_S2048x2048_S2048x2048_S2048x2048_1_0_0_1_n_n none
        (extf .f32 X Cert.ClippedIdeal.Facts₀.bitsLt_bf16_f32) (extf .f32 W Cert.ClippedIdeal.Facts₀.bitsLt_bf16_f32))
      (addf (broadcastInDim Cert.ClippedIdeal.S2048x2048 ![] Cert.ClippedIdeal.Facts₀.bcast_S_S2048x2048
          (constant Cert.ClippedIdeal.S_ .f32 0x3F800000#32))
        (Host.exp (Host.negf (minimumf
          (broadcastInDim Cert.ClippedIdeal.S2048x2048 ![] Cert.ClippedIdeal.Facts₀.bcast_S_S2048x2048
            (id (constant Cert.ClippedIdeal.S_ .f32 0x42700000#32)))
          (maximumf
            (broadcastInDim Cert.ClippedIdeal.S2048x2048 ![] Cert.ClippedIdeal.Facts₀.bcast_S_S2048x2048
              (id (constant Cert.ClippedIdeal.S_ .f32 0xC2700000#32)))
            (Host.dotGeneral Cert.ClippedIdeal.dot_S2048x2048_S2048x2048_S2048x2048_1_0_0_1_n_n none
              (extf .f32 X Cert.ClippedIdeal.Facts₀.bitsLt_bf16_f32) (extf .f32 W Cert.ClippedIdeal.Facts₀.bitsLt_bf16_f32)))))))
      = clipOut X W := by
  funext y
  have h1 := scalar_value 0x3F800000#32 y
  rw [Ideal.ofBits_one_f32] at h1
  have hn := (scalar_value 0xC2700000#32 y).trans neg_bound
  unfold clipOut siluClip clip
  rw [← dot_value X W y, ← h1, ← hn, show bound = _ from (scalar_value 0x42700000#32 y).symm]
  rfl

theorem run_clipped (m : (ℓ : Loc Cert.ClippedIdeal.nD Cert.ClippedIdeal.τ Cert.ClippedIdeal.sig) → Buf (Elt Ideal) ℓ)
    (ρ : Dev Cert.ClippedIdeal.nD → PrngReg) :
    θ_run Cert.ClippedIdeal.defs (onTc (τ := Cert.ClippedIdeal.τ) (Cert.ClippedIdeal.main (F := Ideal))) ⟨m, fun _ => 0, ρ⟩ fun r =>
      ∀ c : Dev Cert.ClippedIdeal.nD,
        r.2.mem ((c.tc : Thread _ Cert.ClippedIdeal.τ).loc Cert.ClippedIdeal.main_v8)
            = clipOut (m ((c.tc : Thread _ Cert.ClippedIdeal.τ).loc Cert.ClippedIdeal.main_arg0))
                (m ((c.tc : Thread _ Cert.ClippedIdeal.τ).loc Cert.ClippedIdeal.main_arg1))
          ∧ r.2.mem ((c.tc : Thread _ Cert.ClippedIdeal.τ).loc Cert.ClippedIdeal.main_arg0)
              = m ((c.tc : Thread _ Cert.ClippedIdeal.τ).loc Cert.ClippedIdeal.main_arg0)
          ∧ r.2.mem ((c.tc : Thread _ Cert.ClippedIdeal.τ).loc Cert.ClippedIdeal.main_arg1)
              = m ((c.tc : Thread _ Cert.ClippedIdeal.τ).loc Cert.ClippedIdeal.main_arg1) := by
  refine (θ_run Cert.ClippedIdeal.defs _ _).mono (fun r h c => ⟨(h c).1.trans ?_, (h c).2⟩)
    (Cert.ClippedIdeal.Value.run (F := Ideal) m ρ)
  exact clip_value _ _

/-! ## Where the mask holds -/

theorem mask_value (X W : Whole) (y : Cert.ReferenceIdeal.S2048x2048.Idx)
    (h : Cert.On_clip_idle.fn (F := Ideal) X W y = 1#1) : max (dotAt X W y) (-(dotAt X W y)) ≤ bound := by
  have e : Ideal.cmp .ole (max (dotAt X W y) (-(dotAt X W y))) bound = 1#1 := by
    rw [← dot_value X W y, show bound = _ from (scalar_value 0x42700000#32 y).symm]
    exact h
  by_contra hn
  simp [Ideal.cmp, hn] at e

/-- There the two references agree. -/
theorem refs_agree (X W : Whole) (y : Cert.ReferenceIdeal.S2048x2048.Idx)
    (h : Cert.On_clip_idle.fn (F := Ideal) X W y = 1#1) : refOut X W y = clipOut X W y :=
  (silu_clip _ (mask_value X W y h)).symm

end Cert.RingProof

end
-- ==== Proof.Value.lean ====
/- The kernel against the plain product: the devices' shares of a place are the sixteen stretches of 128 terms of one
   sum of 2048. -/
module

public import proofs.«01_k».proof.Proof.Frames
public import proofs.«01_k».proof.Proof.Sum
public import proofs.«01_k».proof.Proof.Plain
public import proofs.«01_k».proof.Proof.Clipped

@[expose] public section

noncomputable section

namespace Cert.RingProof

open Cert.KernelIdeal Cert.KernelIdeal.Gen
open Idealize.ShloMosaic Idealize.ShloMosaic.TcCoe Idealize.ShloMosaic.ValueIdx Idealize.SL.Sem
open scoped BigOperators

/-! ## The operands of a device -/

variable (m : (ℓ : Loc nD τ sig) → Buf (Elt Ideal) ℓ)

theorem xs_eq (d : Dev nD) : xs m d = m ((d.tc : Thread nD τ).loc main_arg0) := by
  unfold xs xstg
  exact Memref.read_access_unit_zero (Elt Ideal) main_arg0 (by funext a; fin_cases a <;> rfl) _ _
theorem wts_eq (d : Dev nD) : wts m d = m ((d.tc : Thread nD τ).loc main_arg1) := by
  unfold wts wstg
  refine (shapeCast_self (s := S128x2048) _ _).trans ?_
  exact (Memref.readAt_unit_zero (Elt Ideal) cc0_stg1_0 (by funext a; fin_cases a <;> rfl) _ _).trans
    (Memref.read_access_unit_zero (Elt Ideal) main_arg1 (by funext a; fin_cases a <;> rfl) _ _)

/-- Place `k` of stretch `d`. -/
def place (d : Fin 16) (k : Fin 128) : Fin 2048 := ⟨128 * d.val + k.val, by omega⟩

/-- A sum of 2048 terms by its sixteen stretches. -/
theorem sum_places {M : Type} [AddCommMonoid M] (g : Fin 2048 → M) : ∑ d : Fin 16, ∑ k : Fin 128, g (place d k) = ∑ n, g n := by
  rw [← Fintype.sum_prod_type' (f := fun d k => g (place d k)), ← (finProdFinEquiv (m := 16) (n := 128)).sum_comp g]
  refine Finset.sum_congr rfl fun q _ => congrArg g (Fin.ext ?_)
  show 128 * q.1.val + q.2.val = q.2.val + 128 * q.1.val
  omega

variable (X W : Whole)
  (hx : ∀ c : Dev nD, m ((c.tc : Thread nD τ).loc main_arg0) = Layout.block ⟨2, ![2048, 128]⟩ ⟨2, ![2048, 2048]⟩ 1 16 c X)
  (hw : ∀ c : Dev nD, m ((c.tc : Thread nD τ).loc main_arg1) = Layout.block ⟨2, ![128, 2048]⟩ ⟨2, ![2048, 2048]⟩ 0 16 c W)

include hx hw in
/-- All the shares of a place are the reference's sum. -/
theorem shares (c : Dev nD) (i : Fin 128) (n : Fin 2048) :
    ∑ d, share m c d i n = ∑ k : Fin 2048, X (ix2 (row c i) k) * W (ix2 k n) := by
  rw [← sum_places fun k => X (ix2 (row c i) k) * W (ix2 k n)]
  refine Finset.sum_congr rfl fun d _ => Finset.sum_congr rfl fun k _ => ?_
  rw [xs_eq, wts_eq, hx d, hw d]
  refine congrArg₂ (· * ·) (congrArg X (funext fun a => Fin.ext ?_)) (congrArg W (funext fun a => Fin.ext ?_))
  · fin_cases a
    · rfl
    · show d.val * 128 + k.val = 128 * d.val + k.val; omega
  · fin_cases a
    · show d.val * 128 + k.val = 128 * d.val + k.val; omega
    · rfl

include hx hw in
/-- Device `c`'s result is block `c` of the reference's. -/
theorem out_block (c : Dev nD) : outAt m c = Layout.block ⟨2, ![128, 2048]⟩ ⟨2, ![2048, 2048]⟩ 0 16 c (refOut X W) := by
  funext y
  obtain ⟨i, n, rfl⟩ : ∃ (i : Fin 128) (n : Fin 2048), y = ix2 i n := ⟨y 0, y 1, eq_ix2 y⟩
  rw [show outAt m c (ix2 i n) = _ from outAt_apply m c i n, shares m X W hx hw c i n, Layout.block_apply]
  unfold refOut
  refine congrArg silu (Finset.sum_congr rfl fun k _ => congrArg₂ (· * ·) (congrArg X (funext fun a => Fin.ext ?_))
    (congrArg W (funext fun a => Fin.ext ?_)))
  · fin_cases a
    · show 128 * c.val + i.val = c.val * 128 + i.val; omega
    · rfl
  · fin_cases a <;> rfl

theorem algebraic : Cert.algebraic_KernelIdeal_ReferenceIdeal := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run defs _ _).mono (fun _ h c => ⟨(h.1 c).1.trans
      (out_block m _ _ (fun d => (hagree d).1) (fun d => (hagree d).2) c), (h.1 c).2⟩) (run_kernel m ρ)
  · exact (θ_run Cert.ReferenceIdeal.defs _ _).mono (fun _ h => h 0) (run_reference m' ρ')

/-- Against the reference with its clip, at the places where the mask holds. -/
theorem algebraic_clipped : Cert.algebraic_KernelIdeal_ClippedIdeal_on_clip_idle := by
  intro m ρ m' ρ' _ hagree
  refine ⟨clipOut (m' (((0 : Dev Cert.ClippedIdeal.nD).tc : Thread _ Cert.ClippedIdeal.τ).loc Cert.ClippedIdeal.main_arg0))
    (m' (((0 : Dev Cert.ClippedIdeal.nD).tc : Thread _ Cert.ClippedIdeal.τ).loc Cert.ClippedIdeal.main_arg1)), ?_, ?_⟩
  · refine (θ_run Cert.KernelIdeal.defs _ _).mono (fun _ h c => ⟨fun i hi => ?_, (h.1 c).2⟩) (run_kernel m ρ)
    refine (congrFun ((h.1 c).1.trans (out_block m _ _ (fun d => (hagree d).1) (fun d => (hagree d).2) c)) i).trans ?_
    exact (Layout.block_apply ..).trans ((refs_agree _ _ _ ((Layout.block_apply ..).symm.trans hi)).trans (Layout.block_apply ..).symm)
  · exact (θ_run Cert.ClippedIdeal.defs _ _).mono (fun _ h => ⟨fun i _ => congrFun (h 0).1 i, (h 0).2⟩) (run_clipped m' ρ')

end Cert.RingProof

end
-- ==== Proof.lean ====
/- The claims, assembled: the three runs, the ideal program's text, and the values. -/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Frames
public import proofs.«01_k».proof.Proof.Plain
public import proofs.«01_k».proof.Proof.Clipped
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.ClippedIdeal.Gen.facts, Cert.RingProof.facts_idle,
  Cert.RingProof.frame_kernel, Cert.RingProof.frame_ideal, Cert.RingProof.frame_reference,
  Cert.RingProof.frame_clipped, trivial, Cert.RingProof.algebraic, Cert.RingProof.algebraic_clipped⟩

end Cert.Proof

end
